-- ==== Defs.lean ====
def Pre_Kernel [hPre_blocks_exist : Cert.Pre_blocks_exist.Facts] (m : (ℓ : Loc Cert.Kernel.nD Cert.Kernel.τ Cert.Kernel.sig) → Buf (Elt Bits) ℓ) : Prop :=
  ∀ c : Dev Cert.Kernel.nD,
    (Cert.Pre_blocks_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_blocks_exist : Cert.Pre_blocks_exist.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_blocks_exist : Cert.Pre_blocks_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_blocks_exist : Cert.Pre_blocks_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_blocks_exist : Cert.Pre_blocks_exist.Facts) (hPre_scores_finite : Cert.Pre_scores_finite.Facts),
    quiescent_Kernel (hKernel := hKernel) (hPre_blocks_exist := hPre_blocks_exist)
    ∧ quiescent_KernelIdeal (hKernelIdeal := hKernelIdeal) (hPre_blocks_exist := hPre_blocks_exist)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_blocks_exist.lean ====
abbrev S2x16x2048x128 : Shape := ⟨4, ![2, 16, 2048, 128]⟩
abbrev S16x4 : Shape := ⟨2, ![16, 4]⟩
abbrev S_ : Shape := ⟨0, ![]⟩

class Facts : Prop where
  bcast_S_S16x4 : S_.BroadcastsInDim S16x4 (![] : Fin 0 → Fin S16x4.rank)

variable [Facts]

def fn {F : FTy → Type} [FloatOps F] (main_arg0 : FVec F S2x16x2048x128 .f32) (main_arg1 : FVec F S2x16x2048x128 .f32) (main_arg2 : FVec F S2x16x2048x128 .f32) (main_arg3 : IVec S16x4 32) : IVec S16x4 1 :=
  let main_c : IVec S_ 32 := constantI S_ 32 0#32
  let main_v0 : IVec S16x4 32 := broadcastInDim S16x4 ![] bcast_S_S16x4 main_c
  let main_v1 : IVec S16x4 1 := cmpi .sge main_arg3 main_v0
  let main_c_0 : IVec S_ 32 := constantI S_ 32 16#32
  let main_v2 : IVec S16x4 32 := broadcastInDim S16x4 ![] bcast_S_S16x4 main_c_0
  let main_v3 : IVec S16x4 1 := cmpi .slt main_arg3 main_v2
  let main_v4 : IVec S16x4 1 := andi main_v1 main_v3
  main_v4
-- ==== Pre_scores_finite.lean ====
abbrev S2x16x2048x128 : Shape := ⟨4, ![2, 16, 2048, 128]⟩
abbrev S16x4 : Shape := ⟨2, ![16, 4]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S16x4 : S_.BroadcastsInDim S16x4 (![] : Fin 0 → Fin S16x4.rank)
  reducesTo_S16x4_S_d0_1 : S16x4.ReducesTo [0, 1] S_

variable [Facts]

def fn {F : FTy → Type} [FloatOps F] (main_arg0 : FVec F S2x16x2048x128 .f32) (main_arg1 : FVec F S2x16x2048x128 .f32) (main_arg2 : FVec F S2x16x2048x128 .f32) (main_arg3 : IVec S16x4 32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_c_2 : IVec S_ 32 := constantI S_ 32 0#32
  let main_v9 : IVec S16x4 32 := broadcastInDim S16x4 ![] bcast_S_S16x4 main_c_2
  let main_v10 : IVec S16x4 1 := cmpi .sge main_arg3 main_v9
  let main_c_3 : IVec S_ 32 := constantI S_ 32 16#32
  let main_v11 : IVec S16x4 32 := broadcastInDim S16x4 ![] bcast_S_S16x4 main_c_3
  let main_v12 : IVec S16x4 1 := cmpi .slt main_arg3 main_v11
  let main_v13 : IVec S16x4 1 := andi main_v10 main_v12
  let main_c_4 : IVec S_ 1 := constantI S_ 1 1#1
  let main_v14 : IVec S_ 1 := (fun x v => Host.reduce IntOp.andi x v reducesTo_S16x4_S_d0_1 h_S_) main_v13 main_c_4
  let main_v15 : IVec S_ 1 := andi main_v8 main_v14
  main_v15
-- ==== Kernel.lean ====
abbrev S2x16x2048x128 : Shape := ⟨4, ![2, 16, 2048, 128]⟩
abbrev S16x4 : Shape := ⟨2, ![16, 4]⟩
abbrev S32x2048x128 : Shape := ⟨3, ![32, 2048, 128]⟩
abbrev S64 : Shape := ⟨1, ![64]⟩
abbrev S1x2048x128 : Shape := ⟨3, ![1, 2048, 128]⟩
abbrev S2048x128 : Shape := ⟨2, ![2048, 128]⟩
abbrev S512x128 : Shape := ⟨2, ![512, 128]⟩
abbrev S1x128x128 : Shape := ⟨3, ![1, 128, 128]⟩
abbrev S128x128 : Shape := ⟨2, ![128, 128]⟩
abbrev S1 : Shape := ⟨1, ![1]⟩
abbrev S128x512 : Shape := ⟨2, ![128, 512]⟩

abbrev nBuf : Space → Nat
  | .hbm => 9
  | .vmem => 10
  | .smem => 1
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S16x4, .i32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S32x2048x128, .f32⟩
  | .hbm, ⟨8, _⟩ => ⟨S2x16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S2048x128, .bf16⟩
  | .local _ .vmem, ⟨9, _⟩ => ⟨S2048x128, .bf16⟩
  | .local _ .smem, ⟨0, _⟩ => ⟨S64, .i32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v4 : Ref sig .tc := ⟨.hbm, 7, rfl⟩
abbrev main_v5 : Ref sig .tc := ⟨.hbm, 8, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (v18 : BitVec 32) : Fin 2 → Nat :=
  let c128_i32 : BitVec 32 := 128#32
  let v19 : BitVec 32 := Scalar.muli v18 c128_i32
  let v20 : Index := Scalar.indexCast v19
  let c0_14 : Index := 0#32
  ![v20.toNat, 0]

def k0_chk1 (v18 : BitVec 32) : Prop :=
  (∀ a, (k0_off1 v18) a + S128x128.size a ≤ S2048x128.size a)
theorem k0_off1_inb : ∀ (v18 : BitVec 32) (k0_hw1 : k0_chk1 v18), ∀ a, (k0_off1 v18) a + S128x128.size a ≤ S2048x128.size a := fun v18 k0_hw1 => k0_hw1

def k0_off2 (v25 : BitVec 32) : Fin 2 → Nat :=
  let c128_i32_17 : BitVec 32 := 128#32
  let v26 : BitVec 32 := Scalar.muli v25 c128_i32_17
  let v27 : Index := Scalar.indexCast v26
  let c0_18 : Index := 0#32
  ![v27.toNat, 0]

def k0_chk2 (v25 : BitVec 32) : Prop :=
  (∀ a, (k0_off2 v25) a + S128x128.size a ≤ S2048x128.size a)
theorem k0_off2_inb : ∀ (v25 : BitVec 32) (k0_hw2 : k0_chk2 v25), ∀ a, (k0_off2 v25) a + S128x128.size a ≤ S2048x128.size a := fun v25 k0_hw2 => k0_hw2

def k0_off3 (v32 : BitVec 32) : Fin 2 → Nat :=
  let c128_i32_21 : BitVec 32 := 128#32
  let v33 : BitVec 32 := Scalar.muli v32 c128_i32_21
  let v34 : Index := Scalar.indexCast v33
  let c0_22 : Index := 0#32
  ![v34.toNat, 0]

def k0_chk3 (v32 : BitVec 32) : Prop :=
  (∀ a, (k0_off3 v32) a + S128x128.size a ≤ S2048x128.size a)
theorem k0_off3_inb : ∀ (v32 : BitVec 32) (k0_hw3 : k0_chk3 v32), ∀ a, (k0_off3 v32) a + S128x128.size a ≤ S2048x128.size a := fun v32 k0_hw3 => k0_hw3

def k0_off4 (v39 : BitVec 32) : Fin 2 → Nat :=
  let c128_i32_25 : BitVec 32 := 128#32
  let v40 : BitVec 32 := Scalar.muli v39 c128_i32_25
  let v41 : Index := Scalar.indexCast v40
  let c0_26 : Index := 0#32
  ![v41.toNat, 0]

def k0_chk4 (v39 : BitVec 32) : Prop :=
  (∀ a, (k0_off4 v39) a + S128x128.size a ≤ S2048x128.size a)
theorem k0_off4_inb : ∀ (v39 : BitVec 32) (k0_hw4 : k0_chk4 v39), ∀ a, (k0_off4 v39) a + S128x128.size a ≤ S2048x128.size a := fun v39 k0_hw4 => k0_hw4

def k0_off5 (v62 : BitVec 32) : Fin 2 → Nat :=
  let c128_i32_38 : BitVec 32 := 128#32
  let v63 : BitVec 32 := Scalar.muli v62 c128_i32_38
  let v64 : Index := Scalar.indexCast v63
  let c0_39 : Index := 0#32
  ![v64.toNat, 0]

def k0_chk5 (v62 : BitVec 32) : Prop :=
  (∀ a, (k0_off5 v62) a + S128x128.size a ≤ S2048x128.size a)
theorem k0_off5_inb : ∀ (v62 : BitVec 32) (k0_hw5 : k0_chk5 v62), ∀ a, (k0_off5 v62) a + S128x128.size a ≤ S2048x128.size a := fun v62 k0_hw5 => k0_hw5

def k0_off6 (v69 : BitVec 32) : Fin 2 → Nat :=
  let c128_i32_42 : BitVec 32 := 128#32
  let v70 : BitVec 32 := Scalar.muli v69 c128_i32_42
  let v71 : Index := Scalar.indexCast v70
  let c0_43 : Index := 0#32
  ![v71.toNat, 0]

def k0_chk6 (v69 : BitVec 32) : Prop :=
  (∀ a, (k0_off6 v69) a + S128x128.size a ≤ S2048x128.size a)
theorem k0_off6_inb : ∀ (v69 : BitVec 32) (k0_hw6 : k0_chk6 v69), ∀ a, (k0_off6 v69) a + S128x128.size a ≤ S2048x128.size a := fun v69 k0_hw6 => k0_hw6

def k0_off7 (v76 : BitVec 32) : Fin 2 → Nat :=
  let c128_i32_46 : BitVec 32 := 128#32
  let v77 : BitVec 32 := Scalar.muli v76 c128_i32_46
  let v78 : Index := Scalar.indexCast v77
  let c0_47 : Index := 0#32
  ![v78.toNat, 0]

def k0_chk7 (v76 : BitVec 32) : Prop :=
  (∀ a, (k0_off7 v76) a + S128x128.size a ≤ S2048x128.size a)
theorem k0_off7_inb : ∀ (v76 : BitVec 32) (k0_hw7 : k0_chk7 v76), ∀ a, (k0_off7 v76) a + S128x128.size a ≤ S2048x128.size a := fun v76 k0_hw7 => k0_hw7

def k0_off8 (v83 : BitVec 32) : Fin 2 → Nat :=
  let c128_i32_50 : BitVec 32 := 128#32
  let v84 : BitVec 32 := Scalar.muli v83 c128_i32_50
  let v85 : Index := Scalar.indexCast v84
  let c0_51 : Index := 0#32
  ![v85.toNat, 0]

def k0_chk8 (v83 : BitVec 32) : Prop :=
  (∀ a, (k0_off8 v83) a + S128x128.size a ≤ S2048x128.size a)
theorem k0_off8_inb : ∀ (v83 : BitVec 32) (k0_hw8 : k0_chk8 v83), ∀ a, (k0_off8 v83) a + S128x128.size a ≤ S2048x128.size a := fun v83 k0_hw8 => k0_hw8

def k0_off9 (v106 : BitVec 32) : Fin 2 → Nat :=
  let c128_i32_63 : BitVec 32 := 128#32
  let v107 : BitVec 32 := Scalar.muli v106 c128_i32_63
  let v108 : Index := Scalar.indexCast v107
  let c0_64 : Index := 0#32
  ![v108.toNat, 0]

def k0_chk9 (v106 : BitVec 32) : Prop :=
  (∀ a, (k0_off9 v106) a + S128x128.size a ≤ S2048x128.size a)
theorem k0_off9_inb : ∀ (v106 : BitVec 32) (k0_hw9 : k0_chk9 v106), ∀ a, (k0_off9 v106) a + S128x128.size a ≤ S2048x128.size a := fun v106 k0_hw9 => k0_hw9

def k0_off10 (v113 : BitVec 32) : Fin 2 → Nat :=
  let c128_i32_67 : BitVec 32 := 128#32
  let v114 : BitVec 32 := Scalar.muli v113 c128_i32_67
  let v115 : Index := Scalar.indexCast v114
  let c0_68 : Index := 0#32
  ![v115.toNat, 0]

def k0_chk10 (v113 : BitVec 32) : Prop :=
  (∀ a, (k0_off10 v113) a + S128x128.size a ≤ S2048x128.size a)
theorem k0_off10_inb : ∀ (v113 : BitVec 32) (k0_hw10 : k0_chk10 v113), ∀ a, (k0_off10 v113) a + S128x128.size a ≤ S2048x128.size a := fun v113 k0_hw10 => k0_hw10

def k0_off11 (v120 : BitVec 32) : Fin 2 → Nat :=
  let c128_i32_71 : BitVec 32 := 128#32
  let v121 : BitVec 32 := Scalar.muli v120 c128_i32_71
  let v122 : Index := Scalar.indexCast v121
  let c0_72 : Index := 0#32
  ![v122.toNat, 0]

def k0_chk11 (v120 : BitVec 32) : Prop :=
  (∀ a, (k0_off11 v120) a + S128x128.size a ≤ S2048x128.size a)
theorem k0_off11_inb : ∀ (v120 : BitVec 32) (k0_hw11 : k0_chk11 v120), ∀ a, (k0_off11 v120) a + S128x128.size a ≤ S2048x128.size a := fun v120 k0_hw11 => k0_hw11

def k0_off12 (v127 : BitVec 32) : Fin 2 → Nat :=
  let c128_i32_75 : BitVec 32 := 128#32
  let v128 : BitVec 32 := Scalar.muli v127 c128_i32_75
  let v129 : Index := Scalar.indexCast v128
  let c0_76 : Index := 0#32
  ![v129.toNat, 0]

def k0_chk12 (v127 : BitVec 32) : Prop :=
  (∀ a, (k0_off12 v127) a + S128x128.size a ≤ S2048x128.size a)
theorem k0_off12_inb : ∀ (v127 : BitVec 32) (k0_hw12 : k0_chk12 v127), ∀ a, (k0_off12 v127) a + S128x128.size a ≤ S2048x128.size a := fun v127 k0_hw12 => k0_hw12

def k0_off13 (v150 : BitVec 32) : Fin 2 → Nat :=
  let c128_i32_88 : BitVec 32 := 128#32
  let v151 : BitVec 32 := Scalar.muli v150 c128_i32_88
  let v152 : Index := Scalar.indexCast v151
  let c0_89 : Index := 0#32
  ![v152.toNat, 0]

def k0_chk13 (v150 : BitVec 32) : Prop :=
  (∀ a, (k0_off13 v150) a + S128x128.size a ≤ S2048x128.size a)
theorem k0_off13_inb : ∀ (v150 : BitVec 32) (k0_hw13 : k0_chk13 v150), ∀ a, (k0_off13 v150) a + S128x128.size a ≤ S2048x128.size a := fun v150 k0_hw13 => k0_hw13

def k0_off14 (v157 : BitVec 32) : Fin 2 → Nat :=
  let c128_i32_92 : BitVec 32 := 128#32
  let v158 : BitVec 32 := Scalar.muli v157 c128_i32_92
  let v159 : Index := Scalar.indexCast v158
  let c0_93 : Index := 0#32
  ![v159.toNat, 0]

def k0_chk14 (v157 : BitVec 32) : Prop :=
  (∀ a, (k0_off14 v157) a + S128x128.size a ≤ S2048x128.size a)
theorem k0_off14_inb : ∀ (v157 : BitVec 32) (k0_hw14 : k0_chk14 v157), ∀ a, (k0_off14 v157) a + S128x128.size a ≤ S2048x128.size a := fun v157 k0_hw14 => k0_hw14

def k0_off15 (v164 : BitVec 32) : Fin 2 → Nat :=
  let c128_i32_96 : BitVec 32 := 128#32
  let v165 : BitVec 32 := Scalar.muli v164 c128_i32_96
  let v166 : Index := Scalar.indexCast v165
  let c0_97 : Index := 0#32
  ![v166.toNat, 0]

def k0_chk15 (v164 : BitVec 32) : Prop :=
  (∀ a, (k0_off15 v164) a + S128x128.size a ≤ S2048x128.size a)
theorem k0_off15_inb : ∀ (v164 : BitVec 32) (k0_hw15 : k0_chk15 v164), ∀ a, (k0_off15 v164) a + S128x128.size a ≤ S2048x128.size a := fun v164 k0_hw15 => k0_hw15

def k0_off16 (v171 : BitVec 32) : Fin 2 → Nat :=
  let c128_i32_100 : BitVec 32 := 128#32
  let v172 : BitVec 32 := Scalar.muli v171 c128_i32_100
  let v173 : Index := Scalar.indexCast v172
  let c0_101 : Index := 0#32
  ![v173.toNat, 0]

def k0_chk16 (v171 : BitVec 32) : Prop :=
  (∀ a, (k0_off16 v171) a + S128x128.size a ≤ S2048x128.size a)
theorem k0_off16_inb : ∀ (v171 : BitVec 32) (k0_hw16 : k0_chk16 v171), ∀ a, (k0_off16 v171) a + S128x128.size a ≤ S2048x128.size a := fun v171 k0_hw16 => k0_hw16

def k0_off17 (v194 : BitVec 32) : Fin 2 → Nat :=
  let c128_i32_113 : BitVec 32 := 128#32
  let v195 : BitVec 32 := Scalar.muli v194 c128_i32_113
  let v196 : Index := Scalar.indexCast v195
  let c0_114 : Index := 0#32
  ![v196.toNat, 0]

def k0_chk17 (v194 : BitVec 32) : Prop :=
  (∀ a, (k0_off17 v194) a + S128x128.size a ≤ S2048x128.size a)
theorem k0_off17_inb : ∀ (v194 : BitVec 32) (k0_hw17 : k0_chk17 v194), ∀ a, (k0_off17 v194) a + S128x128.size a ≤ S2048x128.size a := fun v194 k0_hw17 => k0_hw17

def k0_off18 (v201 : BitVec 32) : Fin 2 → Nat :=
  let c128_i32_117 : BitVec 32 := 128#32
  let v202 : BitVec 32 := Scalar.muli v201 c128_i32_117
  let v203 : Index := Scalar.indexCast v202
  let c0_118 : Index := 0#32
  ![v203.toNat, 0]

def k0_chk18 (v201 : BitVec 32) : Prop :=
  (∀ a, (k0_off18 v201) a + S128x128.size a ≤ S2048x128.size a)
theorem k0_off18_inb : ∀ (v201 : BitVec 32) (k0_hw18 : k0_chk18 v201), ∀ a, (k0_off18 v201) a + S128x128.size a ≤ S2048x128.size a := fun v201 k0_hw18 => k0_hw18

def k0_off19 (v208 : BitVec 32) : Fin 2 → Nat :=
  let c128_i32_121 : BitVec 32 := 128#32
  let v209 : BitVec 32 := Scalar.muli v208 c128_i32_121
  let v210 : Index := Scalar.indexCast v209
  let c0_122 : Index := 0#32
  ![v210.toNat, 0]

def k0_chk19 (v208 : BitVec 32) : Prop :=
  (∀ a, (k0_off19 v208) a + S128x128.size a ≤ S2048x128.size a)
theorem k0_off19_inb : ∀ (v208 : BitVec 32) (k0_hw19 : k0_chk19 v208), ∀ a, (k0_off19 v208) a + S128x128.size a ≤ S2048x128.size a := fun v208 k0_hw19 => k0_hw19

def k0_off20 (v215 : BitVec 32) : Fin 2 → Nat :=
  let c128_i32_125 : BitVec 32 := 128#32
  let v216 : BitVec 32 := Scalar.muli v215 c128_i32_125
  let v217 : Index := Scalar.indexCast v216
  let c0_126 : Index := 0#32
  ![v217.toNat, 0]

def k0_chk20 (v215 : BitVec 32) : Prop :=
  (∀ a, (k0_off20 v215) a + S128x128.size a ≤ S2048x128.size a)
theorem k0_off20_inb : ∀ (v215 : BitVec 32) (k0_hw20 : k0_chk20 v215), ∀ a, (k0_off20 v215) a + S128x128.size a ≤ S2048x128.size a := fun v215 k0_hw20 => k0_hw20

def k0_off21 (v238 : BitVec 32) : Fin 2 → Nat :=
  let c128_i32_138 : BitVec 32 := 128#32
  let v239 : BitVec 32 := Scalar.muli v238 c128_i32_138
  let v240 : Index := Scalar.indexCast v239
  let c0_139 : Index := 0#32
  ![v240.toNat, 0]

def k0_chk21 (v238 : BitVec 32) : Prop :=
  (∀ a, (k0_off21 v238) a + S128x128.size a ≤ S2048x128.size a)
theorem k0_off21_inb : ∀ (v238 : BitVec 32) (k0_hw21 : k0_chk21 v238), ∀ a, (k0_off21 v238) a + S128x128.size a ≤ S2048x128.size a := fun v238 k0_hw21 => k0_hw21

def k0_off22 (v245 : BitVec 32) : Fin 2 → Nat :=
  let c128_i32_142 : BitVec 32 := 128#32
  let v246 : BitVec 32 := Scalar.muli v245 c128_i32_142
  let v247 : Index := Scalar.indexCast v246
  let c0_143 : Index := 0#32
  ![v247.toNat, 0]

def k0_chk22 (v245 : BitVec 32) : Prop :=
  (∀ a, (k0_off22 v245) a + S128x128.size a ≤ S2048x128.size a)
theorem k0_off22_inb : ∀ (v245 : BitVec 32) (k0_hw22 : k0_chk22 v245), ∀ a, (k0_off22 v245) a + S128x128.size a ≤ S2048x128.size a := fun v245 k0_hw22 => k0_hw22

def k0_off23 (v252 : BitVec 32) : Fin 2 → Nat :=
  let c128_i32_146 : BitVec 32 := 128#32
  let v253 : BitVec 32 := Scalar.muli v252 c128_i32_146
  let v254 : Index := Scalar.indexCast v253
  let c0_147 : Index := 0#32
  ![v254.toNat, 0]

def k0_chk23 (v252 : BitVec 32) : Prop :=
  (∀ a, (k0_off23 v252) a + S128x128.size a ≤ S2048x128.size a)
theorem k0_off23_inb : ∀ (v252 : BitVec 32) (k0_hw23 : k0_chk23 v252), ∀ a, (k0_off23 v252) a + S128x128.size a ≤ S2048x128.size a := fun v252 k0_hw23 => k0_hw23

def k0_off24 (v259 : BitVec 32) : Fin 2 → Nat :=
  let c128_i32_150 : BitVec 32 := 128#32
  let v260 : BitVec 32 := Scalar.muli v259 c128_i32_150
  let v261 : Index := Scalar.indexCast v260
  let c0_151 : Index := 0#32
  ![v261.toNat, 0]

def k0_chk24 (v259 : BitVec 32) : Prop :=
  (∀ a, (k0_off24 v259) a + S128x128.size a ≤ S2048x128.size a)
theorem k0_off24_inb : ∀ (v259 : BitVec 32) (k0_hw24 : k0_chk24 v259), ∀ a, (k0_off24 v259) a + S128x128.size a ≤ S2048x128.size a := fun v259 k0_hw24 => k0_hw24

def k0_off25 (v282 : BitVec 32) : Fin 2 → Nat :=
  let c128_i32_163 : BitVec 32 := 128#32
  let v283 : BitVec 32 := Scalar.muli v282 c128_i32_163
  let v284 : Index := Scalar.indexCast v283
  let c0_164 : Index := 0#32
  ![v284.toNat, 0]

def k0_chk25 (v282 : BitVec 32) : Prop :=
  (∀ a, (k0_off25 v282) a + S128x128.size a ≤ S2048x128.size a)
theorem k0_off25_inb : ∀ (v282 : BitVec 32) (k0_hw25 : k0_chk25 v282), ∀ a, (k0_off25 v282) a + S128x128.size a ≤ S2048x128.size a := fun v282 k0_hw25 => k0_hw25

def k0_off26 (v289 : BitVec 32) : Fin 2 → Nat :=
  let c128_i32_167 : BitVec 32 := 128#32
  let v290 : BitVec 32 := Scalar.muli v289 c128_i32_167
  let v291 : Index := Scalar.indexCast v290
  let c0_168 : Index := 0#32
  ![v291.toNat, 0]

def k0_chk26 (v289 : BitVec 32) : Prop :=
  (∀ a, (k0_off26 v289) a + S128x128.size a ≤ S2048x128.size a)
theorem k0_off26_inb : ∀ (v289 : BitVec 32) (k0_hw26 : k0_chk26 v289), ∀ a, (k0_off26 v289) a + S128x128.size a ≤ S2048x128.size a := fun v289 k0_hw26 => k0_hw26

def k0_off27 (v296 : BitVec 32) : Fin 2 → Nat :=
  let c128_i32_171 : BitVec 32 := 128#32
  let v297 : BitVec 32 := Scalar.muli v296 c128_i32_171
  let v298 : Index := Scalar.indexCast v297
  let c0_172 : Index := 0#32
  ![v298.toNat, 0]

def k0_chk27 (v296 : BitVec 32) : Prop :=
  (∀ a, (k0_off27 v296) a + S128x128.size a ≤ S2048x128.size a)
theorem k0_off27_inb : ∀ (v296 : BitVec 32) (k0_hw27 : k0_chk27 v296), ∀ a, (k0_off27 v296) a + S128x128.size a ≤ S2048x128.size a := fun v296 k0_hw27 => k0_hw27

def k0_off28 (v303 : BitVec 32) : Fin 2 → Nat :=
  let c128_i32_175 : BitVec 32 := 128#32
  let v304 : BitVec 32 := Scalar.muli v303 c128_i32_175
  let v305 : Index := Scalar.indexCast v304
  let c0_176 : Index := 0#32
  ![v305.toNat, 0]

def k0_chk28 (v303 : BitVec 32) : Prop :=
  (∀ a, (k0_off28 v303) a + S128x128.size a ≤ S2048x128.size a)
theorem k0_off28_inb : ∀ (v303 : BitVec 32) (k0_hw28 : k0_chk28 v303), ∀ a, (k0_off28 v303) a + S128x128.size a ≤ S2048x128.size a := fun v303 k0_hw28 => k0_hw28

def k0_off29 (v326 : BitVec 32) : Fin 2 → Nat :=
  let c128_i32_188 : BitVec 32 := 128#32
  let v327 : BitVec 32 := Scalar.muli v326 c128_i32_188
  let v328 : Index := Scalar.indexCast v327
  let c0_189 : Index := 0#32
  ![v328.toNat, 0]

def k0_chk29 (v326 : BitVec 32) : Prop :=
  (∀ a, (k0_off29 v326) a + S128x128.size a ≤ S2048x128.size a)
theorem k0_off29_inb : ∀ (v326 : BitVec 32) (k0_hw29 : k0_chk29 v326), ∀ a, (k0_off29 v326) a + S128x128.size a ≤ S2048x128.size a := fun v326 k0_hw29 => k0_hw29

def k0_off30 (v333 : BitVec 32) : Fin 2 → Nat :=
  let c128_i32_192 : BitVec 32 := 128#32
  let v334 : BitVec 32 := Scalar.muli v333 c128_i32_192
  let v335 : Index := Scalar.indexCast v334
  let c0_193 : Index := 0#32
  ![v335.toNat, 0]

def k0_chk30 (v333 : BitVec 32) : Prop :=
  (∀ a, (k0_off30 v333) a + S128x128.size a ≤ S2048x128.size a)
theorem k0_off30_inb : ∀ (v333 : BitVec 32) (k0_hw30 : k0_chk30 v333), ∀ a, (k0_off30 v333) a + S128x128.size a ≤ S2048x128.size a := fun v333 k0_hw30 => k0_hw30

def k0_off31 (v340 : BitVec 32) : Fin 2 → Nat :=
  let c128_i32_196 : BitVec 32 := 128#32
  let v341 : BitVec 32 := Scalar.muli v340 c128_i32_196
  let v342 : Index := Scalar.indexCast v341
  let c0_197 : Index := 0#32
  ![v342.toNat, 0]

def k0_chk31 (v340 : BitVec 32) : Prop :=
  (∀ a, (k0_off31 v340) a + S128x128.size a ≤ S2048x128.size a)
theorem k0_off31_inb : ∀ (v340 : BitVec 32) (k0_hw31 : k0_chk31 v340), ∀ a, (k0_off31 v340) a + S128x128.size a ≤ S2048x128.size a := fun v340 k0_hw31 => k0_hw31

def k0_off32 (v347 : BitVec 32) : Fin 2 → Nat :=
  let c128_i32_200 : BitVec 32 := 128#32
  let v348 : BitVec 32 := Scalar.muli v347 c128_i32_200
  let v349 : Index := Scalar.indexCast v348
  let c0_201 : Index := 0#32
  ![v349.toNat, 0]

def k0_chk32 (v347 : BitVec 32) : Prop :=
  (∀ a, (k0_off32 v347) a + S128x128.size a ≤ S2048x128.size a)
theorem k0_off32_inb : ∀ (v347 : BitVec 32) (k0_hw32 : k0_chk32 v347), ∀ a, (k0_off32 v347) a + S128x128.size a ≤ S2048x128.size a := fun v347 k0_hw32 => k0_hw32

def k0_off33 (v370 : BitVec 32) : Fin 2 → Nat :=
  let c128_i32_213 : BitVec 32 := 128#32
  let v371 : BitVec 32 := Scalar.muli v370 c128_i32_213
  let v372 : Index := Scalar.indexCast v371
  let c0_214 : Index := 0#32
  ![v372.toNat, 0]

def k0_chk33 (v370 : BitVec 32) : Prop :=
  (∀ a, (k0_off33 v370) a + S128x128.size a ≤ S2048x128.size a)
theorem k0_off33_inb : ∀ (v370 : BitVec 32) (k0_hw33 : k0_chk33 v370), ∀ a, (k0_off33 v370) a + S128x128.size a ≤ S2048x128.size a := fun v370 k0_hw33 => k0_hw33

def k0_off34 (v377 : BitVec 32) : Fin 2 → Nat :=
  let c128_i32_217 : BitVec 32 := 128#32
  let v378 : BitVec 32 := Scalar.muli v377 c128_i32_217
  let v379 : Index := Scalar.indexCast v378
  let c0_218 : Index := 0#32
  ![v379.toNat, 0]

def k0_chk34 (v377 : BitVec 32) : Prop :=
  (∀ a, (k0_off34 v377) a + S128x128.size a ≤ S2048x128.size a)
theorem k0_off34_inb : ∀ (v377 : BitVec 32) (k0_hw34 : k0_chk34 v377), ∀ a, (k0_off34 v377) a + S128x128.size a ≤ S2048x128.size a := fun v377 k0_hw34 => k0_hw34

def k0_off35 (v384 : BitVec 32) : Fin 2 → Nat :=
  let c128_i32_221 : BitVec 32 := 128#32
  let v385 : BitVec 32 := Scalar.muli v384 c128_i32_221
  let v386 : Index := Scalar.indexCast v385
  let c0_222 : Index := 0#32
  ![v386.toNat, 0]

def k0_chk35 (v384 : BitVec 32) : Prop :=
  (∀ a, (k0_off35 v384) a + S128x128.size a ≤ S2048x128.size a)
theorem k0_off35_inb : ∀ (v384 : BitVec 32) (k0_hw35 : k0_chk35 v384), ∀ a, (k0_off35 v384) a + S128x128.size a ≤ S2048x128.size a := fun v384 k0_hw35 => k0_hw35

def k0_off36 (v391 : BitVec 32) : Fin 2 → Nat :=
  let c128_i32_225 : BitVec 32 := 128#32
  let v392 : BitVec 32 := Scalar.muli v391 c128_i32_225
  let v393 : Index := Scalar.indexCast v392
  let c0_226 : Index := 0#32
  ![v393.toNat, 0]

def k0_chk36 (v391 : BitVec 32) : Prop :=
  (∀ a, (k0_off36 v391) a + S128x128.size a ≤ S2048x128.size a)
theorem k0_off36_inb : ∀ (v391 : BitVec 32) (k0_hw36 : k0_chk36 v391), ∀ a, (k0_off36 v391) a + S128x128.size a ≤ S2048x128.size a := fun v391 k0_hw36 => k0_hw36

def k0_off37 (v414 : BitVec 32) : Fin 2 → Nat :=
  let c128_i32_238 : BitVec 32 := 128#32
  let v415 : BitVec 32 := Scalar.muli v414 c128_i32_238
  let v416 : Index := Scalar.indexCast v415
  let c0_239 : Index := 0#32
  ![v416.toNat, 0]

def k0_chk37 (v414 : BitVec 32) : Prop :=
  (∀ a, (k0_off37 v414) a + S128x128.size a ≤ S2048x128.size a)
theorem k0_off37_inb : ∀ (v414 : BitVec 32) (k0_hw37 : k0_chk37 v414), ∀ a, (k0_off37 v414) a + S128x128.size a ≤ S2048x128.size a := fun v414 k0_hw37 => k0_hw37

def k0_off38 (v421 : BitVec 32) : Fin 2 → Nat :=
  let c128_i32_242 : BitVec 32 := 128#32
  let v422 : BitVec 32 := Scalar.muli v421 c128_i32_242
  let v423 : Index := Scalar.indexCast v422
  let c0_243 : Index := 0#32
  ![v423.toNat, 0]

def k0_chk38 (v421 : BitVec 32) : Prop :=
  (∀ a, (k0_off38 v421) a + S128x128.size a ≤ S2048x128.size a)
theorem k0_off38_inb : ∀ (v421 : BitVec 32) (k0_hw38 : k0_chk38 v421), ∀ a, (k0_off38 v421) a + S128x128.size a ≤ S2048x128.size a := fun v421 k0_hw38 => k0_hw38

def k0_off39 (v428 : BitVec 32) : Fin 2 → Nat :=
  let c128_i32_246 : BitVec 32 := 128#32
  let v429 : BitVec 32 := Scalar.muli v428 c128_i32_246
  let v430 : Index := Scalar.indexCast v429
  let c0_247 : Index := 0#32
  ![v430.toNat, 0]

def k0_chk39 (v428 : BitVec 32) : Prop :=
  (∀ a, (k0_off39 v428) a + S128x128.size a ≤ S2048x128.size a)
theorem k0_off39_inb : ∀ (v428 : BitVec 32) (k0_hw39 : k0_chk39 v428), ∀ a, (k0_off39 v428) a + S128x128.size a ≤ S2048x128.size a := fun v428 k0_hw39 => k0_hw39

def k0_off40 (v435 : BitVec 32) : Fin 2 → Nat :=
  let c128_i32_250 : BitVec 32 := 128#32
  let v436 : BitVec 32 := Scalar.muli v435 c128_i32_250
  let v437 : Index := Scalar.indexCast v436
  let c0_251 : Index := 0#32
  ![v437.toNat, 0]

def k0_chk40 (v435 : BitVec 32) : Prop :=
  (∀ a, (k0_off40 v435) a + S128x128.size a ≤ S2048x128.size a)
theorem k0_off40_inb : ∀ (v435 : BitVec 32) (k0_hw40 : k0_chk40 v435), ∀ a, (k0_off40 v435) a + S128x128.size a ≤ S2048x128.size a := fun v435 k0_hw40 => k0_hw40

def k0_off41 (v458 : BitVec 32) : Fin 2 → Nat :=
  let c128_i32_263 : BitVec 32 := 128#32
  let v459 : BitVec 32 := Scalar.muli v458 c128_i32_263
  let v460 : Index := Scalar.indexCast v459
  let c0_264 : Index := 0#32
  ![v460.toNat, 0]

def k0_chk41 (v458 : BitVec 32) : Prop :=
  (∀ a, (k0_off41 v458) a + S128x128.size a ≤ S2048x128.size a)
theorem k0_off41_inb : ∀ (v458 : BitVec 32) (k0_hw41 : k0_chk41 v458), ∀ a, (k0_off41 v458) a + S128x128.size a ≤ S2048x128.size a := fun v458 k0_hw41 => k0_hw41

def k0_off42 (v465 : BitVec 32) : Fin 2 → Nat :=
  let c128_i32_267 : BitVec 32 := 128#32
  let v466 : BitVec 32 := Scalar.muli v465 c128_i32_267
  let v467 : Index := Scalar.indexCast v466
  let c0_268 : Index := 0#32
  ![v467.toNat, 0]

def k0_chk42 (v465 : BitVec 32) : Prop :=
  (∀ a, (k0_off42 v465) a + S128x128.size a ≤ S2048x128.size a)
theorem k0_off42_inb : ∀ (v465 : BitVec 32) (k0_hw42 : k0_chk42 v465), ∀ a, (k0_off42 v465) a + S128x128.size a ≤ S2048x128.size a := fun v465 k0_hw42 => k0_hw42

def k0_off43 (v472 : BitVec 32) : Fin 2 → Nat :=
  let c128_i32_271 : BitVec 32 := 128#32
  let v473 : BitVec 32 := Scalar.muli v472 c128_i32_271
  let v474 : Index := Scalar.indexCast v473
  let c0_272 : Index := 0#32
  ![v474.toNat, 0]

def k0_chk43 (v472 : BitVec 32) : Prop :=
  (∀ a, (k0_off43 v472) a + S128x128.size a ≤ S2048x128.size a)
theorem k0_off43_inb : ∀ (v472 : BitVec 32) (k0_hw43 : k0_chk43 v472), ∀ a, (k0_off43 v472) a + S128x128.size a ≤ S2048x128.size a := fun v472 k0_hw43 => k0_hw43

def k0_off44 (v479 : BitVec 32) : Fin 2 → Nat :=
  let c128_i32_275 : BitVec 32 := 128#32
  let v480 : BitVec 32 := Scalar.muli v479 c128_i32_275
  let v481 : Index := Scalar.indexCast v480
  let c0_276 : Index := 0#32
  ![v481.toNat, 0]

def k0_chk44 (v479 : BitVec 32) : Prop :=
  (∀ a, (k0_off44 v479) a + S128x128.size a ≤ S2048x128.size a)
theorem k0_off44_inb : ∀ (v479 : BitVec 32) (k0_hw44 : k0_chk44 v479), ∀ a, (k0_off44 v479) a + S128x128.size a ≤ S2048x128.size a := fun v479 k0_hw44 => k0_hw44

def k0_off45 (v502 : BitVec 32) : Fin 2 → Nat :=
  let c128_i32_288 : BitVec 32 := 128#32
  let v503 : BitVec 32 := Scalar.muli v502 c128_i32_288
  let v504 : Index := Scalar.indexCast v503
  let c0_289 : Index := 0#32
  ![v504.toNat, 0]

def k0_chk45 (v502 : BitVec 32) : Prop :=
  (∀ a, (k0_off45 v502) a + S128x128.size a ≤ S2048x128.size a)
theorem k0_off45_inb : ∀ (v502 : BitVec 32) (k0_hw45 : k0_chk45 v502), ∀ a, (k0_off45 v502) a + S128x128.size a ≤ S2048x128.size a := fun v502 k0_hw45 => k0_hw45

def k0_off46 (v509 : BitVec 32) : Fin 2 → Nat :=
  let c128_i32_292 : BitVec 32 := 128#32
  let v510 : BitVec 32 := Scalar.muli v509 c128_i32_292
  let v511 : Index := Scalar.indexCast v510
  let c0_293 : Index := 0#32
  ![v511.toNat, 0]

def k0_chk46 (v509 : BitVec 32) : Prop :=
  (∀ a, (k0_off46 v509) a + S128x128.size a ≤ S2048x128.size a)
theorem k0_off46_inb : ∀ (v509 : BitVec 32) (k0_hw46 : k0_chk46 v509), ∀ a, (k0_off46 v509) a + S128x128.size a ≤ S2048x128.size a := fun v509 k0_hw46 => k0_hw46

def k0_off47 (v516 : BitVec 32) : Fin 2 → Nat :=
  let c128_i32_296 : BitVec 32 := 128#32
  let v517 : BitVec 32 := Scalar.muli v516 c128_i32_296
  let v518 : Index := Scalar.indexCast v517
  let c0_297 : Index := 0#32
  ![v518.toNat, 0]

def k0_chk47 (v516 : BitVec 32) : Prop :=
  (∀ a, (k0_off47 v516) a + S128x128.size a ≤ S2048x128.size a)
theorem k0_off47_inb : ∀ (v516 : BitVec 32) (k0_hw47 : k0_chk47 v516), ∀ a, (k0_off47 v516) a + S128x128.size a ≤ S2048x128.size a := fun v516 k0_hw47 => k0_hw47

def k0_off48 (v523 : BitVec 32) : Fin 2 → Nat :=
  let c128_i32_300 : BitVec 32 := 128#32
  let v524 : BitVec 32 := Scalar.muli v523 c128_i32_300
  let v525 : Index := Scalar.indexCast v524
  let c0_301 : Index := 0#32
  ![v525.toNat, 0]

def k0_chk48 (v523 : BitVec 32) : Prop :=
  (∀ a, (k0_off48 v523) a + S128x128.size a ≤ S2048x128.size a)
theorem k0_off48_inb : ∀ (v523 : BitVec 32) (k0_hw48 : k0_chk48 v523), ∀ a, (k0_off48 v523) a + S128x128.size a ≤ S2048x128.size a := fun v523 k0_hw48 => k0_hw48

def k0_off49 (v546 : BitVec 32) : Fin 2 → Nat :=
  let c128_i32_313 : BitVec 32 := 128#32
  let v547 : BitVec 32 := Scalar.muli v546 c128_i32_313
  let v548 : Index := Scalar.indexCast v547
  let c0_314 : Index := 0#32
  ![v548.toNat, 0]

def k0_chk49 (v546 : BitVec 32) : Prop :=
  (∀ a, (k0_off49 v546) a + S128x128.size a ≤ S2048x128.size a)
theorem k0_off49_inb : ∀ (v546 : BitVec 32) (k0_hw49 : k0_chk49 v546), ∀ a, (k0_off49 v546) a + S128x128.size a ≤ S2048x128.size a := fun v546 k0_hw49 => k0_hw49

def k0_off50 (v553 : BitVec 32) : Fin 2 → Nat :=
  let c128_i32_317 : BitVec 32 := 128#32
  let v554 : BitVec 32 := Scalar.muli v553 c128_i32_317
  let v555 : Index := Scalar.indexCast v554
  let c0_318 : Index := 0#32
  ![v555.toNat, 0]

def k0_chk50 (v553 : BitVec 32) : Prop :=
  (∀ a, (k0_off50 v553) a + S128x128.size a ≤ S2048x128.size a)
theorem k0_off50_inb : ∀ (v553 : BitVec 32) (k0_hw50 : k0_chk50 v553), ∀ a, (k0_off50 v553) a + S128x128.size a ≤ S2048x128.size a := fun v553 k0_hw50 => k0_hw50

def k0_off51 (v560 : BitVec 32) : Fin 2 → Nat :=
  let c128_i32_321 : BitVec 32 := 128#32
  let v561 : BitVec 32 := Scalar.muli v560 c128_i32_321
  let v562 : Index := Scalar.indexCast v561
  let c0_322 : Index := 0#32
  ![v562.toNat, 0]

def k0_chk51 (v560 : BitVec 32) : Prop :=
  (∀ a, (k0_off51 v560) a + S128x128.size a ≤ S2048x128.size a)
theorem k0_off51_inb : ∀ (v560 : BitVec 32) (k0_hw51 : k0_chk51 v560), ∀ a, (k0_off51 v560) a + S128x128.size a ≤ S2048x128.size a := fun v560 k0_hw51 => k0_hw51

def k0_off52 (v567 : BitVec 32) : Fin 2 → Nat :=
  let c128_i32_325 : BitVec 32 := 128#32
  let v568 : BitVec 32 := Scalar.muli v567 c128_i32_325
  let v569 : Index := Scalar.indexCast v568
  let c0_326 : Index := 0#32
  ![v569.toNat, 0]

def k0_chk52 (v567 : BitVec 32) : Prop :=
  (∀ a, (k0_off52 v567) a + S128x128.size a ≤ S2048x128.size a)
theorem k0_off52_inb : ∀ (v567 : BitVec 32) (k0_hw52 : k0_chk52 v567), ∀ a, (k0_off52 v567) a + S128x128.size a ≤ S2048x128.size a := fun v567 k0_hw52 => k0_hw52

def k0_off53 (v590 : BitVec 32) : Fin 2 → Nat :=
  let c128_i32_338 : BitVec 32 := 128#32
  let v591 : BitVec 32 := Scalar.muli v590 c128_i32_338
  let v592 : Index := Scalar.indexCast v591
  let c0_339 : Index := 0#32
  ![v592.toNat, 0]

def k0_chk53 (v590 : BitVec 32) : Prop :=
  (∀ a, (k0_off53 v590) a + S128x128.size a ≤ S2048x128.size a)
theorem k0_off53_inb : ∀ (v590 : BitVec 32) (k0_hw53 : k0_chk53 v590), ∀ a, (k0_off53 v590) a + S128x128.size a ≤ S2048x128.size a := fun v590 k0_hw53 => k0_hw53

def k0_off54 (v597 : BitVec 32) : Fin 2 → Nat :=
  let c128_i32_342 : BitVec 32 := 128#32
  let v598 : BitVec 32 := Scalar.muli v597 c128_i32_342
  let v599 : Index := Scalar.indexCast v598
  let c0_343 : Index := 0#32
  ![v599.toNat, 0]

def k0_chk54 (v597 : BitVec 32) : Prop :=
  (∀ a, (k0_off54 v597) a + S128x128.size a ≤ S2048x128.size a)
theorem k0_off54_inb : ∀ (v597 : BitVec 32) (k0_hw54 : k0_chk54 v597), ∀ a, (k0_off54 v597) a + S128x128.size a ≤ S2048x128.size a := fun v597 k0_hw54 => k0_hw54

def k0_off55 (v604 : BitVec 32) : Fin 2 → Nat :=
  let c128_i32_346 : BitVec 32 := 128#32
  let v605 : BitVec 32 := Scalar.muli v604 c128_i32_346
  let v606 : Index := Scalar.indexCast v605
  let c0_347 : Index := 0#32
  ![v606.toNat, 0]

def k0_chk55 (v604 : BitVec 32) : Prop :=
  (∀ a, (k0_off55 v604) a + S128x128.size a ≤ S2048x128.size a)
theorem k0_off55_inb : ∀ (v604 : BitVec 32) (k0_hw55 : k0_chk55 v604), ∀ a, (k0_off55 v604) a + S128x128.size a ≤ S2048x128.size a := fun v604 k0_hw55 => k0_hw55

def k0_off56 (v611 : BitVec 32) : Fin 2 → Nat :=
  let c128_i32_350 : BitVec 32 := 128#32
  let v612 : BitVec 32 := Scalar.muli v611 c128_i32_350
  let v613 : Index := Scalar.indexCast v612
  let c0_351 : Index := 0#32
  ![v613.toNat, 0]

def k0_chk56 (v611 : BitVec 32) : Prop :=
  (∀ a, (k0_off56 v611) a + S128x128.size a ≤ S2048x128.size a)
theorem k0_off56_inb : ∀ (v611 : BitVec 32) (k0_hw56 : k0_chk56 v611), ∀ a, (k0_off56 v611) a + S128x128.size a ≤ S2048x128.size a := fun v611 k0_hw56 => k0_hw56

def k0_off57 (v634 : BitVec 32) : Fin 2 → Nat :=
  let c128_i32_363 : BitVec 32 := 128#32
  let v635 : BitVec 32 := Scalar.muli v634 c128_i32_363
  let v636 : Index := Scalar.indexCast v635
  let c0_364 : Index := 0#32
  ![v636.toNat, 0]

def k0_chk57 (v634 : BitVec 32) : Prop :=
  (∀ a, (k0_off57 v634) a + S128x128.size a ≤ S2048x128.size a)
theorem k0_off57_inb : ∀ (v634 : BitVec 32) (k0_hw57 : k0_chk57 v634), ∀ a, (k0_off57 v634) a + S128x128.size a ≤ S2048x128.size a := fun v634 k0_hw57 => k0_hw57

def k0_off58 (v641 : BitVec 32) : Fin 2 → Nat :=
  let c128_i32_367 : BitVec 32 := 128#32
  let v642 : BitVec 32 := Scalar.muli v641 c128_i32_367
  let v643 : Index := Scalar.indexCast v642
  let c0_368 : Index := 0#32
  ![v643.toNat, 0]

def k0_chk58 (v641 : BitVec 32) : Prop :=
  (∀ a, (k0_off58 v641) a + S128x128.size a ≤ S2048x128.size a)
theorem k0_off58_inb : ∀ (v641 : BitVec 32) (k0_hw58 : k0_chk58 v641), ∀ a, (k0_off58 v641) a + S128x128.size a ≤ S2048x128.size a := fun v641 k0_hw58 => k0_hw58

def k0_off59 (v648 : BitVec 32) : Fin 2 → Nat :=
  let c128_i32_371 : BitVec 32 := 128#32
  let v649 : BitVec 32 := Scalar.muli v648 c128_i32_371
  let v650 : Index := Scalar.indexCast v649
  let c0_372 : Index := 0#32
  ![v650.toNat, 0]

def k0_chk59 (v648 : BitVec 32) : Prop :=
  (∀ a, (k0_off59 v648) a + S128x128.size a ≤ S2048x128.size a)
theorem k0_off59_inb : ∀ (v648 : BitVec 32) (k0_hw59 : k0_chk59 v648), ∀ a, (k0_off59 v648) a + S128x128.size a ≤ S2048x128.size a := fun v648 k0_hw59 => k0_hw59

def k0_off60 (v655 : BitVec 32) : Fin 2 → Nat :=
  let c128_i32_375 : BitVec 32 := 128#32
  let v656 : BitVec 32 := Scalar.muli v655 c128_i32_375
  let v657 : Index := Scalar.indexCast v656
  let c0_376 : Index := 0#32
  ![v657.toNat, 0]

def k0_chk60 (v655 : BitVec 32) : Prop :=
  (∀ a, (k0_off60 v655) a + S128x128.size a ≤ S2048x128.size a)
theorem k0_off60_inb : ∀ (v655 : BitVec 32) (k0_hw60 : k0_chk60 v655), ∀ a, (k0_off60 v655) a + S128x128.size a ≤ S2048x128.size a := fun v655 k0_hw60 => k0_hw60

def k0_off61 (v678 : BitVec 32) : Fin 2 → Nat :=
  let c128_i32_388 : BitVec 32 := 128#32
  let v679 : BitVec 32 := Scalar.muli v678 c128_i32_388
  let v680 : Index := Scalar.indexCast v679
  let c0_389 : Index := 0#32
  ![v680.toNat, 0]

def k0_chk61 (v678 : BitVec 32) : Prop :=
  (∀ a, (k0_off61 v678) a + S128x128.size a ≤ S2048x128.size a)
theorem k0_off61_inb : ∀ (v678 : BitVec 32) (k0_hw61 : k0_chk61 v678), ∀ a, (k0_off61 v678) a + S128x128.size a ≤ S2048x128.size a := fun v678 k0_hw61 => k0_hw61

def k0_off62 (v685 : BitVec 32) : Fin 2 → Nat :=
  let c128_i32_392 : BitVec 32 := 128#32
  let v686 : BitVec 32 := Scalar.muli v685 c128_i32_392
  let v687 : Index := Scalar.indexCast v686
  let c0_393 : Index := 0#32
  ![v687.toNat, 0]

def k0_chk62 (v685 : BitVec 32) : Prop :=
  (∀ a, (k0_off62 v685) a + S128x128.size a ≤ S2048x128.size a)
theorem k0_off62_inb : ∀ (v685 : BitVec 32) (k0_hw62 : k0_chk62 v685), ∀ a, (k0_off62 v685) a + S128x128.size a ≤ S2048x128.size a := fun v685 k0_hw62 => k0_hw62

def k0_off63 (v692 : BitVec 32) : Fin 2 → Nat :=
  let c128_i32_396 : BitVec 32 := 128#32
  let v693 : BitVec 32 := Scalar.muli v692 c128_i32_396
  let v694 : Index := Scalar.indexCast v693
  let c0_397 : Index := 0#32
  ![v694.toNat, 0]

def k0_chk63 (v692 : BitVec 32) : Prop :=
  (∀ a, (k0_off63 v692) a + S128x128.size a ≤ S2048x128.size a)
theorem k0_off63_inb : ∀ (v692 : BitVec 32) (k0_hw63 : k0_chk63 v692), ∀ a, (k0_off63 v692) a + S128x128.size a ≤ S2048x128.size a := fun v692 k0_hw63 => k0_hw63

def k0_off64 (v699 : BitVec 32) : Fin 2 → Nat :=
  let c128_i32_400 : BitVec 32 := 128#32
  let v700 : BitVec 32 := Scalar.muli v699 c128_i32_400
  let v701 : Index := Scalar.indexCast v700
  let c0_401 : Index := 0#32
  ![v701.toNat, 0]

def k0_chk64 (v699 : BitVec 32) : Prop :=
  (∀ a, (k0_off64 v699) a + S128x128.size a ≤ S2048x128.size a)
theorem k0_off64_inb : ∀ (v699 : BitVec 32) (k0_hw64 : k0_chk64 v699), ∀ a, (k0_off64 v699) a + S128x128.size a ≤ S2048x128.size a := fun v699 k0_hw64 => k0_hw64

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S2x16x2048x128 : Shape := ⟨4, ![2, 16, 2048, 128]⟩
abbrev S16x4 : Shape := ⟨2, ![16, 4]⟩
abbrev S2x16x16x128x128 : Shape := ⟨5, ![2, 16, 16, 128, 128]⟩
abbrev S_ : Shape := ⟨0, ![]⟩
abbrev S16x4x1 : Shape := ⟨3, ![16, 4, 1]⟩
abbrev S1 : Shape := ⟨1, ![1]⟩
abbrev S1x1x1 : Shape := ⟨3, ![1, 1, 1]⟩
abbrev S2x16x16x4x128x128 : Shape := ⟨6, ![2, 16, 16, 4, 128, 128]⟩
abbrev S2x16x16x128x4x128 : Shape := ⟨6, ![2, 16, 16, 128, 4, 128]⟩
abbrev S2x16x16x128x512 : Shape := ⟨5, ![2, 16, 16, 128, 512]⟩
abbrev S2x16x16x128 : Shape := ⟨4, ![2, 16, 16, 128]⟩
abbrev S2x16x16x128x1 : Shape := ⟨5, ![2, 16, 16, 128, 1]⟩
abbrev S2x16x16x512x128 : Shape := ⟨5, ![2, 16, 16, 512, 128]⟩

abbrev nBuf : Space → Nat
  | .hbm => 78
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S16x4, .i32⟩
  | .hbm, ⟨4, _⟩ => ⟨S2x16x16x128x128, .f32⟩
  | .hbm, ⟨5, _⟩ => ⟨S2x16x16x128x128, .f32⟩
  | .hbm, ⟨6, _⟩ => ⟨S2x16x16x128x128, .f32⟩
  | .hbm, ⟨7, _⟩ => ⟨S_, .i32⟩
  | .hbm, ⟨8, _⟩ => ⟨S16x4, .i32⟩
  | .hbm, ⟨9, _⟩ => ⟨S16x4, .i1⟩
  | .hbm, ⟨10, _⟩ => ⟨S_, .i32⟩
  | .hbm, ⟨11, _⟩ => ⟨S16x4, .i32⟩
  | .hbm, ⟨12, _⟩ => ⟨S16x4, .i32⟩
  | .hbm, ⟨13, _⟩ => ⟨S16x4, .i32⟩
  | .hbm, ⟨14, _⟩ => ⟨S16x4x1, .i32⟩
  | .hbm, ⟨15, _⟩ => ⟨S1, .i32⟩
  | .hbm, ⟨16, _⟩ => ⟨S_, .i32⟩
  | .hbm, ⟨17, _⟩ => ⟨S16x4x1, .i32⟩
  | .hbm, ⟨18, _⟩ => ⟨S16x4x1, .i1⟩
  | .hbm, ⟨19, _⟩ => ⟨S1x1x1, .i32⟩
  | .hbm, ⟨20, _⟩ => ⟨S16x4x1, .i32⟩
  | .hbm, ⟨21, _⟩ => ⟨S16x4x1, .i1⟩
  | .hbm, ⟨22, _⟩ => ⟨S16x4x1, .i1⟩
  | .hbm, ⟨23, _⟩ => ⟨S_, .i1⟩
  | .hbm, ⟨24, _⟩ => ⟨S16x4, .i1⟩
  | .hbm, ⟨25, _⟩ => ⟨S2x16x16x4x128x128, .f32⟩
  | .hbm, ⟨26, _⟩ => ⟨S2x16x16x4x128x128, .i1⟩
  | .hbm, ⟨27, _⟩ => ⟨S_, .f32⟩
  | .hbm, ⟨28, _⟩ => ⟨S2x16x16x4x128x128, .f32⟩
  | .hbm, ⟨29, _⟩ => ⟨S2x16x16x4x128x128, .f32⟩
  | .hbm, ⟨30, _⟩ => ⟨S_, .i32⟩
  | .hbm, ⟨31, _⟩ => ⟨S16x4, .i32⟩
  | .hbm, ⟨32, _⟩ => ⟨S16x4, .i1⟩
  | .hbm, ⟨33, _⟩ => ⟨S_, .i32⟩
  | .hbm, ⟨34, _⟩ => ⟨S16x4, .i32⟩
  | .hbm, ⟨35, _⟩ => ⟨S16x4, .i32⟩
  | .hbm, ⟨36, _⟩ => ⟨S16x4, .i32⟩
  | .hbm, ⟨37, _⟩ => ⟨S16x4x1, .i32⟩
  | .hbm, ⟨38, _⟩ => ⟨S1, .i32⟩
  | .hbm, ⟨39, _⟩ => ⟨S_, .i32⟩
  | .hbm, ⟨40, _⟩ => ⟨S16x4x1, .i32⟩
  | .hbm, ⟨41, _⟩ => ⟨S16x4x1, .i1⟩
  | .hbm, ⟨42, _⟩ => ⟨S1x1x1, .i32⟩
  | .hbm, ⟨43, _⟩ => ⟨S16x4x1, .i32⟩
  | .hbm, ⟨44, _⟩ => ⟨S16x4x1, .i1⟩
  | .hbm, ⟨45, _⟩ => ⟨S16x4x1, .i1⟩
  | .hbm, ⟨46, _⟩ => ⟨S_, .i1⟩
  | .hbm, ⟨47, _⟩ => ⟨S16x4, .i1⟩
  | .hbm, ⟨48, _⟩ => ⟨S2x16x16x4x128x128, .f32⟩
  | .hbm, ⟨49, _⟩ => ⟨S2x16x16x4x128x128, .i1⟩
  | .hbm, ⟨50, _⟩ => ⟨S_, .f32⟩
  | .hbm, ⟨51, _⟩ => ⟨S2x16x16x4x128x128, .f32⟩
  | .hbm, ⟨52, _⟩ => ⟨S2x16x16x4x128x128, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2x16x16x128x4x128, .f32⟩
  | .hbm, ⟨58, _⟩ => ⟨S2x16x16x128x4x128, .f32⟩
  | .hbm, ⟨59, _⟩ => ⟨S2x16x16x128x4x128, .f32⟩
  | .hbm, ⟨60, _⟩ => ⟨S2x16x16x128x512, .f32⟩
  | .hbm, ⟨61, _⟩ => ⟨S_, .f32⟩
  | .hbm, ⟨62, _⟩ => ⟨S2x16x16x128, .f32⟩
  | .hbm, ⟨63, _⟩ => ⟨S_, .f32⟩
  | .hbm, ⟨64, _⟩ => ⟨S2x16x16x128, .f32⟩
  | .hbm, ⟨65, _⟩ => ⟨S2x16x16x128, .f32⟩
  | .hbm, ⟨66, _⟩ => ⟨S2x16x16x128x1, .f32⟩
  | .hbm, ⟨67, _⟩ => ⟨S2x16x16x128x512, .f32⟩
  | .hbm, ⟨68, _⟩ => ⟨S2x16x16x128x512, .f32⟩
  | .hbm, ⟨69, _⟩ => ⟨S2x16x16x128x512, .f32⟩
  | .hbm, ⟨70, _⟩ => ⟨S_, .f32⟩
  | .hbm, ⟨71, _⟩ => ⟨S2x16x16x128, .f32⟩
  | .hbm, ⟨72, _⟩ => ⟨S2x16x16x128x1, .f32⟩
  | .hbm, ⟨73, _⟩ => ⟨S2x16x16x128x512, .f32⟩
  | .hbm, ⟨74, _⟩ => ⟨S2x16x16x128x512, .f32⟩
  | .hbm, ⟨75, _⟩ => ⟨S2x16x16x512x128, .f32⟩
  | .hbm, ⟨76, _⟩ => ⟨S2x16x16x128x128, .f32⟩
  | .hbm, ⟨77, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v4 : Ref sig .tc := ⟨.hbm, 52, rfl⟩
abbrev main_cst : Ref sig .tc := ⟨.hbm, 53, rfl⟩
abbrev main_v5 : Ref sig .tc := ⟨.hbm, 54, rfl⟩
abbrev main_cst_0 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst_1 : Ref sig .tc := ⟨.hbm, 61, rfl⟩
abbrev main_v11 : Ref sig .tc := ⟨.hbm, 62, rfl⟩
abbrev main_cst_2 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_cst_3 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩

abbrev nD : Nat := 1
abbrev τ : Topo := Topo.v7x

variable {F : FTy → Type} [FloatOps F]
-- ==== Proof.Consts.lean ====
/- What the programs' float constants denote on the extended reals. -/
module

public import Idealize.ShloMosaic.PureOps.Ideal
public import Idealize.ShloMosaic.PureOps.Ideal.Laws
public import Idealize.ShloMosaic.PureOps.IdealRules
public import proofs.«01_k».proof.KernelIdeal

@[expose] public section

noncomputable section

namespace Cert.Consts

open Idealize.ShloMosaic

/-- The pattern of `+∞`. -/
theorem top_f32 : Ideal.ofBits .f32 0x7F800000#32 = (⊤ : EReal) := by
  simp [Ideal.ofBits, Ideal.ieee]

/-- The pattern of `-∞`. -/
theorem bot_f32 : Ideal.ofBits .f32 0xFF800000#32 = (⊥ : EReal) := by
  simp [Ideal.ofBits, Ideal.ieee]

/-- The pattern of `128.0`. -/
theorem f32_128 : Ideal.ofBits .f32 0x43000000#32 = ((128 : ℝ) : EReal) := by
  simp [Ideal.ofBits, Ideal.ieee, -EReal.coe_mul]
  norm_num

/-- The pattern of `1.0`. -/
theorem one_f32 : Ideal.ofBits .f32 0x3F800000#32 = (1 : EReal) := by
  have : Ideal.ofBits .f32 0x3F800000#32 = ((1 : ℝ) : EReal) := by
    simp [Ideal.ofBits, Ideal.ieee, -EReal.coe_mul]
    norm_num
  exact this

/-- The pattern of `1.0` at bf16. -/
theorem one_bf16 : Ideal.ofBits .bf16 0x3F80#16 = (1 : EReal) := by
  have : Ideal.ofBits .bf16 0x3F80#16 = ((1 : ℝ) : EReal) := by
    simp [Ideal.ofBits, Ideal.ieee, -EReal.coe_mul]
    norm_num
  exact this

/-- The kernel's named constant denotes `1 / (√128 · log 2)`. -/
theorem scale : Named.named (F := Ideal) Cert.KernelIdeal.κ "scale_log2e" (φ := .f32) 0x3E0293EE#32
    = (((Real.sqrt 128)⁻¹ * (Real.log 2)⁻¹ : ℝ) : EReal) :=
  IdealRules.named_const.ideal_named_scalar _ _ _ _ rfl

end Cert.Consts

end
-- ==== Proof.Words.lean ====
/- The table of block numbers: every word of it lies in `[0, 16)` by the preconditions, and so every block of
   128 rows that the kernel loads by a word of the table is inside the 2048 rows. -/
module

public import proofs.«01_k».proof.Defs
public import proofs.«01_k».proof.Proof.Consts
public import proofs.«01_k».proof.Proof.Gen.Kernel.Frame
public import proofs.«01_k».proof.Proof.Gen.KernelIdeal.Frame
public import proofs.«01_k».proof.Proof.Gen.Pre_blocks_exist
public import proofs.«01_k».proof.Proof.Gen.Pre_scores_finite

@[expose] public section

set_option maxRecDepth 16384

noncomputable section

namespace Cert.Words

open Idealize.ShloMosaic Idealize.ShloMosaic.TcCoe

/-- A word below 16 names one of the 16 blocks of 128 rows: 128 times it, plus 128 rows, stays within 2048. -/
theorem rows_inside (v : BitVec 32) (h : v.toNat < 16) :
    ∀ a : Fin 2, (![(Scalar.indexCast (Scalar.muli v 128#32) : Index).toNat, 0] : Fin 2 → Nat) a
      + (⟨2, ![128, 128]⟩ : Shape).size a ≤ (⟨2, ![2048, 128]⟩ : Shape).size a := by
  intro a
  have e : (Scalar.indexCast (Scalar.muli v 128#32) : Index).toNat = v.toNat * 128 := by
    show (v * 128#32).toNat = _
    rw [BitVec.toNat_mul]
    show v.toNat * 128 % 2 ^ 32 = _
    omega
  fin_cases a
  · show (Scalar.indexCast (Scalar.muli v 128#32) : Index).toNat + 128 ≤ 2048
    omega
  · show 0 + 128 ≤ 128
    omega

/-- A word that is at least 0 and below 16 as a signed number is below 16 as a natural number. -/
theorem lt_of_bits (w : BitVec 32)
    (h : IntOp.andi (IntOp.cmpi .sge w 0#32) (IntOp.cmpi .slt w 16#32) = 1#1) : w.toNat < 16 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle, BitVec.slt,
    decide_eq_true_eq, BitVec.toInt, BitVec.toNat_ofNat] at h
  omega

/-- A conjunction of two bits is 1 exactly when both are. -/
theorem andi_one (a b : BitVec 1) : IntOp.andi a b = 1#1 ↔ a = 1#1 ∧ b = 1#1 := by
  revert a b; decide

/-- A conjunction over a finite set, from 1, is 1 exactly when every entry is. -/
theorem fold_one {ι : Type} [DecidableEq ι] (S : Finset ι) (x : ι → BitVec 1) :
    S.fold IntOp.andi 1#1 x = 1#1 ↔ ∀ i ∈ S, x i = 1#1 := by
  induction S using Finset.induction_on with
  | empty => simp
  | insert a S ha ih => rw [Finset.fold_insert ha, andi_one, ih]; simp

/-- A «reduce and» from 1 is 1 at `j` exactly when every entry that is reduced into `j` is. -/
theorem reduce_one {s t u : Shape} {axes : List (Fin s.rank)} (x : IVec s 1) (v : IVec u 1) (h : s.ReducesTo axes t)
    (hu : 0 < u.numel) (hv : ∀ k, v k = 1#1) (j : t.Idx) :
    Host.reduce IntOp.andi x v h hu j = 1#1 ↔ ∀ i, h.drop i = j → x i = 1#1 := by
  classical
  rw [Host.reduce_eq_fold, hv, fold_one]
  simp

end Cert.Words

namespace Cert.Kernel.Words

open Cert.Kernel Cert.Kernel.Gen Cert.Words
open Idealize.ShloMosaic Idealize.ShloMosaic.TcCoe

/-- The tables' own side condition holds of any table: no window's index map reads it. -/
theorem ok (m : (ℓ : Loc nD τ sig) → Buf (Elt Bits) ℓ) : Ok m := trivial

/-- The prefetched table is the argument's 16 × 4 words in one row. -/
theorem table_eq (m : (ℓ : Loc nD τ sig) → Buf (Elt Bits) ℓ) :
    tbl m 0 = shapeCast S64 (m (((0 : Dev nD) : Thread nD τ).loc main_arg3)) shapeCasts_S16x4_S64 := by
  unfold tbl; show V m (0 : Dev nD) main_v3 = _; show StableHlo.after (List.flatten [hostOps0]) _ (Proc.devRef .tc main_v3) = _; simp only [hostOps0, List.flatten_cons, List.flatten_nil, List.append_nil]; after_results; rfl

/-- Where every word of the table lies in `[0, 16)`, every load the kernel makes by a word is inside. -/
theorem hyps (m : (ℓ : Loc nD τ sig) → Buf (Elt Bits) ℓ)
    (h : ∀ y, (m (((0 : Dev nD) : Thread nD τ).loc main_arg3) y : BitVec 32).toNat < 16) : Hyps m (ok m) := by
  have hr (i : S64.Idx) : (tbl m 0 i : BitVec 32).toNat < 16 := by rw [table_eq]; exact h _
  intro c t
  refine ⟨?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_⟩ <;> exact rows_inside _ (hr _)

/-- The frame's precondition puts every word of the table in `[0, 16)`. -/
theorem words_lt (m : (ℓ : Loc nD τ sig) → Buf (Elt Bits) ℓ) (h : Cert.Pre_Kernel m) (y : S16x4.Idx) :
    (m (((0 : Dev nD) : Thread nD τ).loc main_arg3) y : BitVec 32).toNat < 16 :=
  lt_of_bits _ (congrFun (h 0) y)

end Cert.Kernel.Words

namespace Cert.KernelIdeal.Words

open Cert.KernelIdeal Cert.KernelIdeal.Gen Cert.Words
open Idealize.ShloMosaic Idealize.ShloMosaic.TcCoe

/-- The tables' own side condition holds of any table: no window's index map reads it. -/
theorem ok (m : (ℓ : Loc nD τ sig) → Buf (Elt Ideal) ℓ) : Ok m := trivial

/-- The prefetched table is the argument's 16 × 4 words in one row. -/
theorem table_eq (m : (ℓ : Loc nD τ sig) → Buf (Elt Ideal) ℓ) :
    tbl m 0 = shapeCast S64 (m (((0 : Dev nD) : Thread nD τ).loc main_arg3)) shapeCasts_S16x4_S64 := by
  unfold tbl; show V m (0 : Dev nD) main_v3 = _; show StableHlo.after (List.flatten [hostOps0]) _ (Proc.devRef .tc main_v3) = _; simp only [hostOps0, List.flatten_cons, List.flatten_nil, List.append_nil]; after_results; rfl

/-- Where every word of the table lies in `[0, 16)`, every load the kernel makes by a word is inside. -/
theorem hyps (m : (ℓ : Loc nD τ sig) → Buf (Elt Ideal) ℓ)
    (h : ∀ y, (m (((0 : Dev nD) : Thread nD τ).loc main_arg3) y : BitVec 32).toNat < 16) : Hyps m (ok m) := by
  have hr (i : S64.Idx) : (tbl m 0 i : BitVec 32).toNat < 16 := by rw [table_eq]; exact h _
  intro c t
  refine ⟨?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_⟩ <;> exact rows_inside _ (hr _)

/-- The frame's precondition puts every word of the table in `[0, 16)`. -/
theorem words_lt (m : (ℓ : Loc nD τ sig) → Buf (Elt Ideal) ℓ) (h : Cert.Pre_KernelIdeal m) (y : S16x4.Idx) :
    (m (((0 : Dev nD) : Thread nD τ).loc main_arg3) y : BitVec 32).toNat < 16 :=
  lt_of_bits _ (congrFun (h 0) y)

/-- An extended real whose absolute value compares below `+∞` is a real number. -/
theorem real_of_bit (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Cert.Consts.top_f32] at h
  have h' : max x (-x) < ⊤ := by
    by_contra hn
    have : (BitVec.ofBool (decide (max x (-x) < ⊤))) = 1#1 := h
    rw [decide_eq_false hn] at this
    exact absurd this (by decide)
  induction x with
  | bot => simp at h'
  | top => simp at h'
  | coe r => exact ⟨r, rfl⟩

/-- What the precondition of the value claim says of the arguments: the queries and the keys are real numbers, and every
    word of the table lies in `[0, 16)`. -/
theorem decoded (m : (ℓ : Loc nD τ sig) → Buf (Elt Ideal) ℓ) (h : Cert.Pre_KernelIdeal_scores_finite m) :
    (∀ y : S2x16x2048x128.Idx, ∃ r : ℝ, m (((0 : Dev nD) : Thread nD τ).loc main_arg0) y = (r : EReal))
    ∧ (∀ y : S2x16x2048x128.Idx, ∃ r : ℝ, m (((0 : Dev nD) : Thread nD τ).loc main_arg1) y = (r : EReal))
    ∧ ∀ y : S16x4.Idx, (m (((0 : Dev nD) : Thread nD τ).loc main_arg3) y : BitVec 32).toNat < 16 := by
  have e := congrFun (h 0) (fun a => a.elim0)
  unfold Cert.Pre_scores_finite.fn at e
  obtain ⟨e, e3⟩ := (andi_one _ _).1 e
  obtain ⟨e0, e1⟩ := (andi_one _ _).1 e
  have drop0 {s : Shape} {axes : List (Fin s.rank)} (hr : s.ReducesTo axes Cert.Pre_scores_finite.S_) (i : s.Idx) (j) :
    hr.drop i = j := funext fun a => a.elim0
  refine ⟨fun y => ?_, fun y => ?_, fun y => ?_⟩
  · exact real_of_bit _ ((reduce_one _ _ _ _ (fun _ => rfl) _).1 e0 y (drop0 _ _ _))
  · exact real_of_bit _ ((reduce_one _ _ _ _ (fun _ => rfl) _).1 e1 y (drop0 _ _ _))
  · exact lt_of_bits _ ((reduce_one _ _ _ _ (fun _ => rfl) _).1 e3 y (drop0 _ _ _))

end Cert.KernelIdeal.Words

end
-- ==== Proof.Block.lean ====
module
public import proofs.«01_k».proof.Proof.Words
public import proofs.«01_k».proof.Proof.Consts
public import Idealize.ShloMosaic.Lib.Pipeline.ValueKit
public import Idealize.ShloMosaic.Lib.Pipeline.ReadBack
public import Idealize.ShloMosaic.Lib.Pointwise

/-! What one grid point of the kernel computes: the 2048 by 128 block of one batch and head, from its query, key and value blocks and the table. -/

@[expose] public section
set_option maxRecDepth 16384
noncomputable section
namespace Cert.KernelIdeal.Block
open Cert.KernelIdeal Cert.KernelIdeal.Gen
open Idealize.ShloMosaic Idealize.ShloMosaic.TcCoe

/-- The key row that the `p`-th of the 512 gathered positions of query block `u` stands for: the row `p % 128` of the key block named by the table's entry `4 u + p / 128`. -/
def keyRow (T : S64.Idx → BitVec 32) (u : Fin 16) (p : Fin 512) : Fin 2048 :=
  ⟨((T (ix1 ⟨4 * u.val + p.val / 128, by omega⟩)).toNat * 128 + p.val % 128) % 2048, Nat.mod_lt _ (by decide)⟩

/-- The base-two exponential of the score of query row `r` of block `u` at gathered position `p`, as the kernel takes it. -/
def weight (Q K : Vec Ideal S1x2048x128 .f32) (T : S64.Idx → BitVec 32) (u : Fin 16) (r : Fin 2048) (p : Fin 512) : EReal :=
  Ideal.exp2 (∑ d : Fin 128, Q (ix3 0 r d) * (((Real.sqrt 128)⁻¹ * (Real.log 2)⁻¹ : ℝ) : EReal) * K (ix3 0 (keyRow T u p) d))

/-- The kernel's output at query row `r` and lane `l`: the weighted sum of the gathered value rows over the sum of the weights. -/
def out (Q K V : Vec Ideal S1x2048x128 .f32) (T : S64.Idx → BitVec 32) (u : Fin 16) (r : Fin 2048) (l : Fin 128) : EReal :=
  Ideal.div (∑ p : Fin 512, weight Q K T u r p * V (ix3 0 (keyRow T u p) l)) (∑ p : Fin 512, weight Q K T u r p)

/-- The block of one batch and head: each row belongs to the query block it lies in. -/
def block (Q K V : Vec Ideal S1x2048x128 .f32) (T : S64.Idx → BitVec 32) : Vec Ideal S1x2048x128 .f32 := fun y =>
  out Q K V T ⟨(y 1).val / 128, Nat.div_lt_of_lt_mul (y 1).isLt⟩ (y 1) (y 2)

/-- The scaled query block at an index. -/
theorem scaled_at (q : Vec Ideal S1x128x128 .f32) (r d : Fin 128) :
    k0_pay5 q (ix2 r d) = q (ix3 0 r d) * (((Real.sqrt 128)⁻¹ * (Real.log 2)⁻¹ : ℝ) : EReal) := by
  pointwise [k0_pay5]
  rw [Cert.Consts.scale]

/-- The key scratch holds the key block. -/
theorem keys_at (k : Vec Ideal S1x2048x128 .f32) (r : Fin 2048) (d : Fin 128) : k0_pay2 k (ix2 r d) = k (ix3 0 r d) := by
  pointwise [k0_pay2]

/-- The value scratch holds the value block. -/
theorem values_at (k : Vec Ideal S1x2048x128 .f32) (r : Fin 2048) (d : Fin 128) : k0_pay3 k (ix2 r d) = k (ix3 0 r d) := by
  pointwise [k0_pay3]

/-- The offset of the block named by a word below 16. -/
theorem off_eq (w : BitVec 32) (hw : w.toNat < 16) : k0_off1 w 0 = w.toNat * 128 := by
  show (w * 128#32).toNat = _
  rw [BitVec.toNat_mul]
  show w.toNat * 128 % 2 ^ 32 = _
  omega

/-- The 128 rows of `A` loaded at the offset of the word `w`. -/
abbrev slab (A : Vec Ideal S2048x128 .bf16) (w : BitVec 32)
    (h : ∀ a : Fin S2048x128.rank, k0_off1 w a + (![128, 128] : Fin 2 → ℕ) a ≤ S2048x128.size a) : Vec Ideal S128x128 .bf16 :=
  View.ld A (Rect.unit (k0_off1 w) ![128, 128] h)

/-- A slab of 128 rows loaded at the offset of a word below 16, at an index. -/
theorem slab_at (A : Vec Ideal S2048x128 .bf16) (w : BitVec 32) (hw : w.toNat < 16)
    (h : ∀ a : Fin S2048x128.rank, k0_off1 w a + (![128, 128] : Fin 2 → ℕ) a ≤ S2048x128.size a) (r : Fin 128) (l : Fin 128) :
    slab A w h (ix2 r l) = A (ix2 ⟨w.toNat * 128 + r.val, by omega⟩ l) := by
  show View.ld A (Rect.unit (k0_off1 w) ![128, 128] h) (ix2 r l) = _
  pointwise []
  exact congrArg A (congrArg₂ ix2 (Fin.ext (congrArg (· + r.val) (off_eq w hw))) (Fin.ext (Nat.zero_add l.val)))

/-- Four slabs of 128 rows stacked, at one lane: a column whose quarters the four slabs hold. -/
theorem stacked_at (a b c d : Vec Ideal S128x128 .bf16) (l : Fin 128) (G : Fin 512 → EReal)
    (ha : ∀ r : Fin 128, a (ix2 r l) = G ⟨128 * 0 + r.val, by omega⟩) (hb : ∀ r : Fin 128, b (ix2 r l) = G ⟨128 * 1 + r.val, by omega⟩)
    (hc : ∀ r : Fin 128, c (ix2 r l) = G ⟨128 * 2 + r.val, by omega⟩) (hd : ∀ r : Fin 128, d (ix2 r l) = G ⟨128 * 3 + r.val, by omega⟩)
    (p : Fin 512) : k0_pay30 a b c d (ix2 p l) = G p := by
  pointwise [k0_pay30]
  have ext (i : Fin 512) (h : i.val = p.val) : G i = G p := congrArg G (Fin.ext h)
  split_ifs
  all_goals first
    | exact (ha _).trans (ext _ (by show 128 * 0 + p.val = p.val; omega))
    | exact (hb _).trans (ext _ (by show 128 * 1 + (p.val - 128) = p.val; omega))
    | exact (hc _).trans (ext _ (by show 128 * 2 + (p.val - 128 - 128) = p.val; omega))
    | exact (hd _).trans (ext _ (by show 128 * 3 + (p.val - 128 - 128 - 128) = p.val; omega))

/-- The slab of the `j`-th word of query block `u`, at a row: the key row of the gathered position `128 j + r`. -/
theorem slab_keyRow (A : Vec Ideal S2048x128 .bf16) (T : S64.Idx → BitVec 32) (hT : ∀ i, (T i).toNat < 16) (u : Fin 16) (j : Fin 4)
    (w : BitVec 32) (e : w = T (ix1 ⟨4 * u.val + j.val, by omega⟩))
    (h : ∀ a : Fin S2048x128.rank, k0_off1 w a + (![128, 128] : Fin 2 → ℕ) a ≤ S2048x128.size a) (l r : Fin 128) :
    slab A w h (ix2 r l) = A (ix2 (keyRow T u ⟨128 * j.val + r.val, by omega⟩) l) := by
  have b : w.toNat < 16 := e ▸ hT _
  rw [slab_at A w b h r l]
  subst e
  congr 2
  refine Fin.ext ?_
  have hj : (128 * j.val + r.val) / 128 = j.val := by omega
  have hr : (128 * j.val + r.val) % 128 = r.val := by omega
  simp only [keyRow, hj, hr]
  exact (Nat.mod_eq_of_lt (by omega)).symm

/-- One tile of the kernel's output over stacked keys and values. -/
theorem core_at (q : FVec Ideal S128x128 .bf16) (k v : FVec Ideal S512x128 .bf16) (r l : Fin 128) :
    k0_pay32 k0_pay4 q k v (constant S128x512 .f32 0x00000000#32) (ix3 0 r l)
      = Ideal.div (∑ p : Fin 512, Ideal.exp2 (∑ d : Fin 128, q (ix2 r d) * k (ix2 p d)) * v (ix2 p l))
          (∑ p : Fin 512, Ideal.exp2 (∑ d : Fin 128, q (ix2 r d) * k (ix2 p d))) := by
  pointwise [k0_pay32, k0_pay4]
  rfl

/-- The tile of query block `u`, stored at rows `o = 128 u` and on, is that part of the block. -/
theorem tile (Q K V : Vec Ideal S1x2048x128 .f32) (T : S64.Idx → BitVec 32) (hT : ∀ i, (T i).toNat < 16) (u : Fin 16) (o : ℕ) (ho : o = 128 * u.val)
    (w0 w1 w2 w3 : BitVec 32) (e0 : w0 = T (ix1 ⟨4 * u.val + 0, by omega⟩)) (e1 : w1 = T (ix1 ⟨4 * u.val + 1, by omega⟩))
    (e2 : w2 = T (ix1 ⟨4 * u.val + 2, by omega⟩)) (e3 : w3 = T (ix1 ⟨4 * u.val + 3, by omega⟩))
    (hq : ∀ a : Fin S1x2048x128.rank, (![0, o, 0] : Fin 3 → ℕ) a + (![1, 128, 128] : Fin 3 → ℕ) a ≤ S1x2048x128.size a)
    (h0 : ∀ a : Fin S2048x128.rank, k0_off1 w0 a + (![128, 128] : Fin 2 → ℕ) a ≤ S2048x128.size a)
    (h1 : ∀ a : Fin S2048x128.rank, k0_off1 w1 a + (![128, 128] : Fin 2 → ℕ) a ≤ S2048x128.size a)
    (h2 : ∀ a : Fin S2048x128.rank, k0_off1 w2 a + (![128, 128] : Fin 2 → ℕ) a ≤ S2048x128.size a)
    (h3 : ∀ a : Fin S2048x128.rank, k0_off1 w3 a + (![128, 128] : Fin 2 → ℕ) a ≤ S2048x128.size a)
    (y : S1x2048x128.Idx) (x : S1x128x128.Idx) (y1 : (y 1).val = o + (x 1).val) (y2 : (y 2).val = (x 2).val) :
    k0_pay32 k0_pay4 (k0_pay5 (View.ld Q (Rect.unit ![0, o, 0] ![1, 128, 128] hq)))
      (k0_pay30 (slab (k0_pay2 K) w0 h0) (slab (k0_pay2 K) w1 h1)
        (slab (k0_pay2 K) w2 h2) (slab (k0_pay2 K) w3 h3))
      (k0_pay30 (slab (k0_pay3 V) w0 h0) (slab (k0_pay3 V) w1 h1)
        (slab (k0_pay3 V) w2 h2) (slab (k0_pay3 V) w3 h3))
      (constant S128x512 .f32 0x00000000#32) x = block Q K V T y := by
  obtain ⟨r, l, rfl⟩ : ∃ r l : Fin 128, x = ix3 0 r l := ⟨x 1, x 2, by
    funext a
    fin_cases a
    · exact Fin.ext (Nat.lt_one_iff.mp (x 0).isLt)
    · rfl
    · rfl⟩
  replace y1 : (y 1).val = o + r.val := y1
  rw [core_at]
  have hq' : ∀ d : Fin 128, View.ld Q (Rect.unit ![0, o, 0] ![1, 128, 128] hq) (ix3 0 r d) = Q (ix3 0 (y 1) d) := by
    intro d
    pointwise []
    exact congrArg (fun i => Q (ix3 0 i d)) (Fin.ext y1.symm)
  have hK (p : Fin 512) (d : Fin 128) := stacked_at _ _ _ _ d (fun p => (k0_pay2 K : Vec Ideal S2048x128 .bf16) (ix2 (keyRow T u p) d))
    (slab_keyRow _ T hT u 0 w0 e0 h0 d) (slab_keyRow _ T hT u 1 w1 e1 h1 d) (slab_keyRow _ T hT u 2 w2 e2 h2 d) (slab_keyRow _ T hT u 3 w3 e3 h3 d) p
  have hV (p : Fin 512) (d : Fin 128) := stacked_at _ _ _ _ d (fun p => (k0_pay3 V : Vec Ideal S2048x128 .bf16) (ix2 (keyRow T u p) d))
    (slab_keyRow _ T hT u 0 w0 e0 h0 d) (slab_keyRow _ T hT u 1 w1 e1 h1 d) (slab_keyRow _ T hT u 2 w2 e2 h2 d) (slab_keyRow _ T hT u 3 w3 e3 h3 d) p
  simp only [keys_at, values_at] at hK hV
  simp only [scaled_at, hK, hV, hq']
  have eu : (⟨(y 1).val / 128, Nat.div_lt_of_lt_mul (y 1).isLt⟩ : Fin 16) = u := Fin.ext (by show (y 1).val / 128 = u.val; omega)
  have el : y 2 = l := Fin.ext y2
  show _ = out Q K V T _ (y 1) (y 2)
  rw [eu, el]
  rfl

/-- The table's word read at position `k`. -/
theorem word_at (T : S64.Idx → BitVec 32) (k : ℕ) (hk : k < 64) (h : ∀ a : Fin S64.rank, (![k] : Fin 1 → ℕ) a + (![1] : Fin 1 → ℕ) a ≤ S64.size a)
    (f : 0 < (⟨1, ![1]⟩ : Shape).numel) :
    View.readAt (Elt Ideal) (View.whole main_v3) (Rect.unit (s := S64) ![k] ![1] h).toLoadRect T (Shape.Idx.first f) = T (ix1 ⟨k, hk⟩) := by
  refine congrArg T (funext fun a => Fin.ext ?_)
  fin_cases a
  rfl

/-- The same for the tile stored at row `o`, its four words being the table's entries from `4 (o / 128)` on. -/
theorem tile_of_words (Q K V : Vec Ideal S1x2048x128 .f32) (T : S64.Idx → BitVec 32) (hT : ∀ i, (T i).toNat < 16) (o : ℕ) (ho : o < 2048 ∧ o % 128 = 0)
    (w0 w1 w2 w3 : BitVec 32) (k0 k1 k2 k3 : ℕ) (e0 : ∀ h : k0 < 64, w0 = T (ix1 ⟨k0, h⟩)) (e1 : ∀ h : k1 < 64, w1 = T (ix1 ⟨k1, h⟩))
    (e2 : ∀ h : k2 < 64, w2 = T (ix1 ⟨k2, h⟩)) (e3 : ∀ h : k3 < 64, w3 = T (ix1 ⟨k3, h⟩))
    (hk : k0 = 4 * (o / 128) + 0 ∧ k1 = 4 * (o / 128) + 1 ∧ k2 = 4 * (o / 128) + 2 ∧ k3 = 4 * (o / 128) + 3)
    (hq : ∀ a : Fin S1x2048x128.rank, (![0, o, 0] : Fin 3 → ℕ) a + (![1, 128, 128] : Fin 3 → ℕ) a ≤ S1x2048x128.size a)
    (h0 : ∀ a : Fin S2048x128.rank, k0_off1 w0 a + (![128, 128] : Fin 2 → ℕ) a ≤ S2048x128.size a)
    (h1 : ∀ a : Fin S2048x128.rank, k0_off1 w1 a + (![128, 128] : Fin 2 → ℕ) a ≤ S2048x128.size a)
    (h2 : ∀ a : Fin S2048x128.rank, k0_off1 w2 a + (![128, 128] : Fin 2 → ℕ) a ≤ S2048x128.size a)
    (h3 : ∀ a : Fin S2048x128.rank, k0_off1 w3 a + (![128, 128] : Fin 2 → ℕ) a ≤ S2048x128.size a)
    (y : S1x2048x128.Idx) (x : S1x128x128.Idx) (y1 : (y 1).val = o + (x 1).val) (y2 : (y 2).val = (x 2).val) :
    k0_pay32 k0_pay4 (k0_pay5 (View.ld Q (Rect.unit ![0, o, 0] ![1, 128, 128] hq)))
      (k0_pay30 (slab (k0_pay2 K) w0 h0) (slab (k0_pay2 K) w1 h1) (slab (k0_pay2 K) w2 h2) (slab (k0_pay2 K) w3 h3))
      (k0_pay30 (slab (k0_pay3 V) w0 h0) (slab (k0_pay3 V) w1 h1) (slab (k0_pay3 V) w2 h2) (slab (k0_pay3 V) w3 h3))
      (constant S128x512 .f32 0x00000000#32) x = block Q K V T y := by
  obtain ⟨rfl, rfl, rfl, rfl⟩ := hk
  obtain ⟨ho, hm⟩ := ho
  exact tile Q K V T hT ⟨o / 128, by omega⟩ o (by show o = 128 * (o / 128); omega) w0 w1 w2 w3 (e0 _) (e1 _) (e2 _) (e3 _) hq h0 h1 h2 h3 y x y1 y2

/-- What a grid point leaves in its output block. -/
theorem outsAt_eq (m : (ℓ : Loc nD τ sig) → Buf (Elt Ideal) ℓ) (hO : Ok m) (hH : Hyps m hO) (c : Dev nD) (t : Fin (cfgM m hO).N)
    (hT : ∀ i : S64.Idx, (tbl m 0 i : BitVec 32).toNat < 16) (y : S1x2048x128.Idx) :
    outsAt0 m hO hH c t y = block (iblk m hO c 0 t) (iblk m hO c 1 t) (iblk m hO c 2 t) (tbl m 0) y := by
  unfold outsAt0
  frame_open
  simp (disch := decide) only [↓ View.readCov_skip, ↓ View.readCov_cons_toLoadRect, ↓ View.readCov_fill]
  frame_out
  have same : ∀ Q K V : Vec Ideal S1x2048x128 .f32, Q = iblk m hO c 0 t → K = iblk m hO c 1 t → V = iblk m hO c 2 t →
      block Q K V (tbl m 0) y = block (iblk m hO c 0 t) (iblk m hO c 1 t) (iblk m hO c 2 t) (tbl m 0) y := by
    rintro _ _ _ rfl rfl rfl
    rfl
  refine Eq.trans ?_ (same _ _ _ ((hs0_0 m hO t).read_unread _) ((hs0_1 m hO t).read_unread _) ((hs0_2 m hO t).read_unread _))
  canon_tiles x h
  all_goals
    refine tile_of_words _ _ _ (tbl m 0) hT _ ⟨?_, ?_⟩ _ _ _ _ _ _ _ _ (fun h => word_at _ _ h _ _) (fun h => word_at _ _ h _ _)
      (fun h => word_at _ _ h _ _) (fun h => word_at _ _ h _ _) ⟨?_, ?_, ?_, ?_⟩ _ _ _ _ _ y x ?_ h2
  all_goals first | exact h1 | exact h1.trans (Nat.zero_add _).symm | decide

end Cert.KernelIdeal.Block
-- ==== Proof.Array.lean ====
module
public import proofs.«01_k».proof.Proof.Block

/-! What the kernel's output array holds after the run, and what the whole program returns. -/

@[expose] public section
set_option maxRecDepth 16384
noncomputable section
namespace Cert.KernelIdeal.Block
open Cert.KernelIdeal Cert.KernelIdeal.Gen
open Idealize.ShloMosaic Idealize.ShloMosaic.TcCoe

/-- At grid point `t` every window stands at the block of batch and head `t`. -/
theorem index_at : (∀ t : Fin grid0.N, cc0_transform_0 (grid0.coords t) = ![t.val, 0, 0]) ∧ (∀ t : Fin grid0.N, cc0_transform_1 (grid0.coords t) = ![t.val, 0, 0])
    ∧ (∀ t : Fin grid0.N, cc0_transform_2 (grid0.coords t) = ![t.val, 0, 0]) ∧ (∀ t : Fin grid0.N, cc0_transform_3 (grid0.coords t) = ![t.val, 0, 0]) := by
  decide +kernel

variable (m : (ℓ : Loc nD τ sig) → Buf (Elt Ideal) ℓ) (hO : Ok m)

theorem index0 (t : Fin (cfgM m hO).N) : ((cfgM m hO).win 0).index t = ![t.val, 0, 0] := index_at.1 t
theorem index1 (t : Fin (cfgM m hO).N) : ((cfgM m hO).win 1).index t = ![t.val, 0, 0] := index_at.2.1 t
theorem index2 (t : Fin (cfgM m hO).N) : ((cfgM m hO).win 2).index t = ![t.val, 0, 0] := index_at.2.2.1 t
theorem index3 (t : Fin (cfgM m hO).N) : ((cfgM m hO).win 3).index t = ![t.val, 0, 0] := index_at.2.2.2 t

/-- The blocks written back tile the output array. -/
theorem covers : ((cfgM m hO).win 3).Covers := by
  refine ⟨by exact (by decide : ∀ a : Fin 3, 0 < S1x2048x128.size a), fun β => ?_⟩
  have b0 : (β (0 : Fin 3)).val < (32 + 1 - 1) / 1 := (β (0 : Fin 3)).isLt
  have b1 : (β (1 : Fin 3)).val < (2048 + 2048 - 1) / 2048 := (β (1 : Fin 3)).isLt
  have b2 : (β (2 : Fin 3)).val < (128 + 128 - 1) / 128 := (β (2 : Fin 3)).isLt
  refine ⟨⟨(β (0 : Fin 3)).val, b0⟩, flush0_3 _ _, fun a => ⟨?_, Or.inl rfl⟩⟩
  rw [index3]
  revert a
  change ∀ a : Fin 3, _
  intro a
  fin_cases a
  · rfl
  · exact (Nat.lt_one_iff.mp b1).symm
  · exact (Nat.lt_one_iff.mp b2).symm

/-- The place in an array of 32 blocks of the index `y` of its `n`-th block, axis by axis. -/
theorem place (b : Fin 3 → ℕ) (n : ℕ) (hn : n < 32) (h : b = ![n, 0, 0]) (y : S1x2048x128.Idx) (a : Fin 3) :
    b a * S1x2048x128.size a + (y a).val = ((ix3 (⟨n, hn⟩ : Fin 32) (y 1) (y 2) : S32x2048x128.Idx) a).val := by
  have y0 : (y 0).val = 0 := Nat.lt_one_iff.mp (y 0).isLt
  subst h
  fin_cases a
  · show n * 1 + (y 0).val = n
    omega
  · exact Nat.zero_add _
  · exact Nat.zero_add _

/-- Where the query window's block lies in its array. -/
theorem emb0 (t : Fin (cfgM m hO).N) (y : S1x2048x128.Idx) :
    (((cfgM m hO).win 0).blk t).view.emb y = (ix3 (⟨t.val, t.isLt⟩ : Fin 32) (y 1) (y 2) : S32x2048x128.Idx) :=
  funext fun a => Fin.ext ((ValueKit.view_emb_slice_whole_unit_val main_v0 _ _ _ y a).trans (place _ t.val t.isLt (index0 m hO t) y a))

/-- Where the key window's block lies in its array. -/
theorem emb1 (t : Fin (cfgM m hO).N) (y : S1x2048x128.Idx) :
    (((cfgM m hO).win 1).blk t).view.emb y = (ix3 (⟨t.val, t.isLt⟩ : Fin 32) (y 1) (y 2) : S32x2048x128.Idx) :=
  funext fun a => Fin.ext ((ValueKit.view_emb_slice_whole_unit_val main_v1 _ _ _ y a).trans (place _ t.val t.isLt (index1 m hO t) y a))

/-- Where the value window's block lies in its array. -/
theorem emb2 (t : Fin (cfgM m hO).N) (y : S1x2048x128.Idx) :
    (((cfgM m hO).win 2).blk t).view.emb y = (ix3 (⟨t.val, t.isLt⟩ : Fin 32) (y 1) (y 2) : S32x2048x128.Idx) :=
  funext fun a => Fin.ext ((ValueKit.view_emb_slice_whole_unit_val main_v2 _ _ _ y a).trans (place _ t.val t.isLt (index2 m hO t) y a))

/-- Where the output window's block lies in its array. -/
theorem emb3 (t : Fin (cfgM m hO).N) (y : S1x2048x128.Idx) :
    (((cfgM m hO).win 3).blk t).view.emb y = (ix3 (⟨t.val, t.isLt⟩ : Fin 32) (y 1) (y 2) : S32x2048x128.Idx) :=
  funext fun a => Fin.ext ((ValueKit.view_emb_slice_whole_unit_val main_v4 _ _ _ y a).trans (place _ t.val t.isLt (index3 m hO t) y a))

/-- The block of batch and head `n` of an array. -/
def part (X : Vec Ideal S32x2048x128 .f32) (n : Fin 32) : Vec Ideal S1x2048x128 .f32 := fun y => X (ix3 n (y 1) (y 2))

/-- The query block of a grid point. -/
theorem iblk0 (c : Dev nD) (t : Fin (cfgM m hO).N) : iblk m hO c 0 t = part (V m c main_v0) ⟨t.val, t.isLt⟩ :=
  funext fun y => congrArg (V m c main_v0) (emb0 m hO t y)

/-- The key block of a grid point. -/
theorem iblk1 (c : Dev nD) (t : Fin (cfgM m hO).N) : iblk m hO c 1 t = part (V m c main_v1) ⟨t.val, t.isLt⟩ :=
  funext fun y => congrArg (V m c main_v1) (emb1 m hO t y)

/-- The value block of a grid point. -/
theorem iblk2 (c : Dev nD) (t : Fin (cfgM m hO).N) : iblk m hO c 2 t = part (V m c main_v2) ⟨t.val, t.isLt⟩ :=
  funext fun y => congrArg (V m c main_v2) (emb2 m hO t y)

/-- The output array of the three arrays and the table, one block per batch and head. -/
def array (X Y Z : Vec Ideal S32x2048x128 .f32) (T : S64.Idx → BitVec 32) : Vec Ideal S32x2048x128 .f32 := fun i =>
  block (part X (i 0)) (part Y (i 0)) (part Z (i 0)) T (ix3 0 (i 1) (i 2))

/-- The output array at the place of an index of its `n`-th block. -/
theorem array_at (X Y Z : Vec Ideal S32x2048x128 .f32) (T : S64.Idx → BitVec 32) (n : Fin 32) (y : S1x2048x128.Idx) :
    array X Y Z T (ix3 n (y 1) (y 2)) = block (part X n) (part Y n) (part Z n) T y := by
  have e : (ix3 0 (y 1) (y 2) : S1x2048x128.Idx) = y := by
    funext a
    fin_cases a
    · exact Fin.ext (Nat.lt_one_iff.mp (y 0).isLt).symm
    · rfl
    · rfl
  exact congrArg (block (part X n) (part Y n) (part Z n) T) e

/-- What the output array holds when every grid point has run. -/
theorem array_eq (hH : Hyps m hO) (c : Dev nD) (hT : ∀ i : S64.Idx, (tbl m 0 i : BitVec 32).toNat < 16) :
    (dats m hO hH 0 c).arrAt 3 (cfgM m hO).N = array (V m c main_v0) (V m c main_v1) (V m c main_v2) (tbl m 0) := by
  have e (t : Fin (cfgM m hO).N) (y : S1x2048x128.Idx) :
      outsAt0 m hO hH c t y
        = array (V m c main_v0) (V m c main_v1) (V m c main_v2) (tbl m 0) ((((cfgM m hO).win 3).blk t).view.emb y) := by
    rw [outsAt_eq m hO hH c t hT y, iblk0, iblk1, iblk2]
    exact (array_at _ _ _ _ _ y).symm.trans
      (congrArg (array (V m c main_v0) (V m c main_v1) (V m c main_v2) (tbl m 0)) (emb3 m hO t y)).symm
  generalize array (V m c main_v0) (V m c main_v1) (V m c main_v2) (tbl m 0) = A at e ⊢
  refine (dats m hO hH 0 c).arrAt_eq_of_covers 3 A (covers m hO) fun t hf y => ?_
  rw [after0_3]
  blk_simp
  exact e t y

/-- The query operand of the kernel: the argument with batch and head as one axis. -/
theorem operand0 (c : Dev nD) : V m c main_v0 = shapeCast S32x2048x128 (m ((c : Thread nD τ).loc main_arg0)) shapeCasts_S2x16x2048x128_S32x2048x128 := by
  show StableHlo.after (List.flatten [hostOps0]) _ (Proc.devRef .tc main_v0) = _
  simp only [hostOps0, List.flatten_cons, List.flatten_nil, List.append_nil]
  after_results
  rfl

/-- The key operand of the kernel: the argument with batch and head as one axis. -/
theorem operand1 (c : Dev nD) : V m c main_v1 = shapeCast S32x2048x128 (m ((c : Thread nD τ).loc main_arg1)) shapeCasts_S2x16x2048x128_S32x2048x128 := by
  show StableHlo.after (List.flatten [hostOps0]) _ (Proc.devRef .tc main_v1) = _
  simp only [hostOps0, List.flatten_cons, List.flatten_nil, List.append_nil]
  after_results
  rfl

/-- The value operand of the kernel: the argument with batch and head as one axis. -/
theorem operand2 (c : Dev nD) : V m c main_v2 = shapeCast S32x2048x128 (m ((c : Thread nD τ).loc main_arg2)) shapeCasts_S2x16x2048x128_S32x2048x128 := by
  show StableHlo.after (List.flatten [hostOps0]) _ (Proc.devRef .tc main_v2) = _
  simp only [hostOps0, List.flatten_cons, List.flatten_nil, List.append_nil]
  after_results
  rfl

/-- What the program returns: the output array reshaped. -/
theorem result_eq (hH : Hyps m hO) (c : Dev nD) (hT : ∀ i : S64.Idx, (tbl m 0 i : BitVec 32).toNat < 16) :
    Pipeline.afterTail pcfgs (fun _ => adm m hO) (dats m hO hH) 0 (V0 m) [hostOps1] c main_v5
      = shapeCast S2x16x2048x128 (array (V m c main_v0) (V m c main_v1) (V m c main_v2) (tbl m 0)) shapeCasts_S32x2048x128_S2x16x2048x128 := by
  rw [← array_eq m hO hH c hT]
  unfold Pipeline.afterTail
  simp only [hostOps1, List.flatten_cons, List.flatten_nil, List.append_nil]
  after_results
  refine congrArg (fun x => shapeCast S2x16x2048x128 x shapeCasts_S32x2048x128_S2x16x2048x128) ?_
  exact Pipeline.withArrays_arr (Pipeline.pin pcfgs (fun _ => adm m hO) 0).spec (by decide : Function.Injective (Pipeline.arrRef spec0)) c (V0 m c)
    (fun w => (dats m hO hH 0 c).arrAt w (Pipeline.pin pcfgs (fun _ => adm m hO) 0).N) 3

end Cert.KernelIdeal.Block
-- ==== Proof.Gather.lean ====
/- The reference's gathers: the blocks of keys and of values that the table names. -/
module

public import proofs.«01_k».proof.Proof.Words
public import proofs.«01_k».proof.Proof.Gen.ReferenceIdeal.Read
public import Idealize.ShloMosaic.Lib.Pointwise

@[expose] public section

set_option maxRecDepth 16384

noncomputable section

namespace Cert.ReferenceIdeal.Reading

open Cert.ReferenceIdeal Cert.ReferenceIdeal.Read Cert.Words
open Idealize.ShloMosaic

/-- The dimension numbers of the reference's two gathers. -/
abbrev G := gather_S2x16x16x128x128_S16x4x1_S2x16x16x4x128x128_0145_2_n_n_2_2_2161128128

/-- A word below 16, read as a signed number and clamped into `[0, 15]`, is itself. -/
theorem clamped (w : BitVec 32) (h : w.toNat < 16) : min w.toInt.toNat (16 - 1) = w.toNat := by
  have : w.toInt = (w.toNat : Int) := by rw [BitVec.toInt_eq_toNat_cond, if_pos (by omega)]
  rw [this]
  omega

/-- A gather of blocks read at an index: block number `k` of query block `u` is the one named by the word. -/
theorem gathered (X : Vec Ideal S2x16x16x128x128 .f32) (I : IVec S16x4x1 32) (hI : ∀ y, (I y).toNat < 16)
    (b : Fin 2) (h u : Fin 16) (k : Fin 4) (r d : Fin 128) :
    Host.gather G X I (ix6 b h u k r d) = X (ix5 b h ⟨(I (ix3 u k 0)).toNat, hI _⟩ r d) := by
  have hs : G.siIdx (ix6 b h u k r d) ⟨List.idxOf (2 : Fin 5) G.startIndexMap,
      List.idxOf_lt_length_iff.2 (List.mem_singleton.mpr rfl)⟩ = (ix3 u k 0 : S16x4x1.Idx) := by
    funext a
    fin_cases a <;> exact Fin.ext rfl
  refine congrArg X (funext fun a => Fin.ext ?_)
  fin_cases a
  · exact (Nat.zero_add b.val : 0 + b.val = b.val)
  · exact (Nat.zero_add h.val : 0 + h.val = h.val)
  · exact (congrArg (fun z => min (I z).toInt.toNat (16 - 1)) hs).trans (clamped _ (hI (ix3 u k 0)))
  · exact (Nat.zero_add r.val : 0 + r.val = r.val)
  · exact (Nat.zero_add d.val : 0 + d.val = d.val)

/-- A word below 16 is not negative. -/
theorem not_neg (w : BitVec 32) (h : w.toNat < 16) : IntOp.cmpi .slt w 0#32 = 0#1 := by
  show BitVec.ofBool (BitVec.slt w 0#32) = 0#1
  have : BitVec.slt w 0#32 = false := by
    simp only [BitVec.slt, decide_eq_false_iff_not, BitVec.toInt_eq_toNat_cond, BitVec.toNat_ofNat]
    rw [if_pos (by omega), if_pos (by omega)]
    omega
  rw [this]
  rfl

/-- A word below 16 passes the gather's own range test. -/
theorem in_range (w : BitVec 32) (h : w.toNat < 16) : IntOp.andi (IntOp.cmpi .sge w 0#32) (IntOp.cmpi .sle w 15#32) = 1#1 := by
  have h0 : IntOp.cmpi .sge w 0#32 = 1#1 := by
    show BitVec.ofBool (BitVec.sle 0#32 w) = 1#1
    have : BitVec.sle 0#32 w = true := by
      simp only [BitVec.sle, decide_eq_true_eq, BitVec.toInt_eq_toNat_cond, BitVec.toNat_ofNat]
      rw [if_pos (by omega), if_pos (by omega)]
      omega
    rw [this]
    rfl
  have h1 : IntOp.cmpi .sle w 15#32 = 1#1 := by
    show BitVec.ofBool (BitVec.sle w 15#32) = 1#1
    have : BitVec.sle w 15#32 = true := by
      simp only [BitVec.sle, decide_eq_true_eq, BitVec.toInt_eq_toNat_cond, BitVec.toNat_ofNat]
      rw [if_pos (by omega), if_pos (by omega)]
      omega
    rw [this]
    rfl
  rw [h0, h1]
  rfl

variable (B : Vec Ideal S16x4 .i32) (hB : ∀ y, (B y : BitVec 32).toNat < 16)

include hB

/-- The gather's start index is the table's own word: no word is negative, so none is wrapped. -/
theorem start_eq (y : S16x4x1.Idx) : val_main_call0_v5 (F := Ideal) B y = B (idx_main_call0_v5 y) := by
  rw [val_main_call0_v5_apply, val_main_call0_v4_apply, val_main_call0_v1_apply, val_main_call0_v0_apply,
    val_main_call0_c_apply, not_neg _ (hB _)]
  rfl

/-- Every start index is in range. -/
theorem mask_eq (y : S16x4.Idx) : val_main_call0_v12 (F := Ideal) B y = 1#1 := by
  unfold val_main_call0_v12
  refine (reduce_one _ _ _ _ (fun _ => rfl) y).2 fun i _ => ?_
  rw [val_main_call0_v11_apply, val_main_call0_v7_apply, val_main_call0_v10_apply, val_main_call0_v6_apply,
    val_main_call0_v9_apply, val_main_call0_v8_apply, val_main_call0_c_1_apply, val_main_call0_c_2_apply, start_eq B hB]
  exact in_range _ (hB _)

/-- The row of the 2048 at which position `r` of block `n` lies. -/
def row (n : Fin 16) (r : Fin 128) : Fin 2048 := ⟨n.val * 128 + r.val, by omega⟩

omit hB in
/-- The argument's rows in blocks of 128. -/
theorem blocked (X : Vec Ideal S2x16x2048x128 .f32) (b : Fin 2) (h u : Fin 16) (r d : Fin 128) :
    val_main_v1 (F := Ideal) X (ix5 b h u r d) = X (ix4 b h (row u r) d) := by
  rw [val_main_v1_apply]
  refine congrArg X (funext fun a => Fin.ext ?_)
  fin_cases a
  · show ((((b.val * 16 + h.val) * 16 + u.val) * 128 + r.val) * 128 + d.val) / 4194304 = b.val
    omega
  · show ((((b.val * 16 + h.val) * 16 + u.val) * 128 + r.val) * 128 + d.val) / 262144 % 16 = h.val
    omega
  · show ((((b.val * 16 + h.val) * 16 + u.val) * 128 + r.val) * 128 + d.val) / 128 % 2048 = u.val * 128 + r.val
    omega
  · show ((((b.val * 16 + h.val) * 16 + u.val) * 128 + r.val) * 128 + d.val) % 128 = d.val
    omega

/-- The blocks taken by the table, read at an index. -/
theorem taken (X : Vec Ideal S2x16x2048x128 .f32) (b : Fin 2) (h u : Fin 16) (k : Fin 4) (r d : Fin 128) :
    val_main_v3 (F := Ideal) X B (ix6 b h u k r d) = X (ix4 b h (row ⟨(B (ix2 u k)).toNat, hB _⟩ r) d) := by
  have hI (y : S16x4x1.Idx) : (val_main_call0_v5 (F := Ideal) B y : BitVec 32).toNat < 16 := by
    rw [start_eq B hB]; exact hB _
  rw [val_main_v3_apply, val_main_call0_v14_apply, mask_eq B hB]
  refine Eq.trans (b := val_main_call0_v13 (F := Ideal) X B (ix6 b h u k r d)) rfl ?_
  unfold val_main_call0_v13
  rw [gathered _ _ hI, blocked]
  have e : (⟨(val_main_call0_v5 (F := Ideal) B (ix3 u k 0) : BitVec 32).toNat, hI _⟩ : Fin 16) = ⟨(B (ix2 u k)).toNat, hB _⟩ := by
    refine Fin.ext (congrArg BitVec.toNat ((start_eq B hB _).trans (congrArg B (funext fun a => ?_))))
    fin_cases a <;> rfl
  rw [e]

end Cert.ReferenceIdeal.Reading

end
-- ==== Proof.Equation.lean ====
/- The equation of the value claim, over real scores: the softmax-weighted mean of the values does not depend on the
   shift of the exponents, nor on whether the weights are divided by their sum before or after the mean is taken. -/
module

public import Idealize.ShloMosaic.PureOps.Ideal
public import Idealize.ShloMosaic.PureOps.Ideal.Laws

@[expose] public section

noncomputable section

namespace Cert.Equation

open Idealize.ShloMosaic

variable {ι : Type}

/-- A sum of real numbers is a real number. -/
theorem sum_real (S : Finset ι) (x : ι → ℝ) : ∑ i ∈ S, ((x i : ℝ) : EReal) = ((∑ i ∈ S, x i : ℝ) : EReal) := by
  classical
  induction S using Finset.induction_on with
  | empty => simp
  | insert a S ha ih => rw [Finset.sum_insert ha, Finset.sum_insert ha, ih, EReal.coe_add]

/-- A nonnegative real factor goes into a finite sum of extended reals. -/
theorem sum_mul (S : Finset ι) (x : ι → EReal) (t : ℝ) (ht : 0 ≤ t) :
    (∑ i ∈ S, x i) * (t : EReal) = ∑ i ∈ S, x i * (t : EReal) := by
  classical
  induction S using Finset.induction_on with
  | empty => simp
  | insert a S ha ih =>
    rw [Finset.sum_insert ha, Finset.sum_insert ha, ← ih]
    exact EReal.right_distrib_of_nonneg_of_ne_top (by exact_mod_cast ht) (EReal.coe_ne_top t) _ _

/-- The largest of finitely many real numbers, at least one, is a real number. -/
theorem max_real (S : Finset ι) (x : ι → EReal) (hS : S.Nonempty) (hx : ∀ i ∈ S, ∃ r : ℝ, x i = (r : EReal)) :
    ∃ r : ℝ, S.fold max ⊥ x = (r : EReal) := by
  classical
  induction hS using Finset.Nonempty.cons_induction with
  | singleton a =>
    obtain ⟨r, hr⟩ := hx a (Finset.mem_singleton_self a)
    exact ⟨r, by rw [Finset.fold_singleton, hr]; exact max_eq_left bot_le⟩
  | cons a S ha hS ih =>
    obtain ⟨r, hr⟩ := hx a (Finset.mem_cons_self a S)
    obtain ⟨q, hq⟩ := ih fun i hi => hx i (Finset.mem_cons_of_mem hi)
    exact ⟨max r q, by rw [Finset.fold_cons, hr, hq]; exact (EReal.coe_strictMono.monotone.map_max).symm⟩

/-- An inner product of real vectors is a real number, wherever a real factor is put. -/
theorem inner_real (S : Finset ι) (x y : ι → EReal) (c : ℝ) (hx : ∀ i, ∃ r : ℝ, x i = (r : EReal)) (hy : ∀ i, ∃ r : ℝ, y i = (r : EReal)) :
    ∃ s : ℝ, ∑ i ∈ S, x i * y i = (s : EReal) ∧ ∑ i ∈ S, x i * (c : EReal) * y i = ((s * c : ℝ) : EReal) := by
  choose p hp using hx
  choose q hq using hy
  refine ⟨∑ i ∈ S, p i * q i, ?_, ?_⟩
  · simp only [hp, hq, ← EReal.coe_mul, sum_real]
  · simp only [hp, hq, ← EReal.coe_mul, sum_real]
    congr 1
    rw [Finset.sum_mul]
    exact Finset.sum_congr rfl fun i _ => by ring

/-- Two to the power of a score scaled by `1 / (√128 · log 2)` is the exponential of the score scaled by `1 / √128`. -/
theorem exp2_scaled (s : ℝ) : Ideal.exp2 ((s * ((Real.sqrt 128)⁻¹ * (Real.log 2)⁻¹) : ℝ) : EReal)
    = ((Real.exp (s * (1 / Real.sqrt 128)) : ℝ) : EReal) := by
  rw [Ideal.exp2_coe]
  congr 1
  show (2 : ℝ) ^ (s * ((Real.sqrt 128)⁻¹ * (Real.log 2)⁻¹) : ℝ) = _
  rw [Real.rpow_def_of_pos two_pos]
  have h : Real.log 2 ≠ 0 := (Real.log_pos one_lt_two).ne'
  congr 1
  field_simp

/-- THE EQUATION: for real scores, the values averaged with the exponentials of the scores, shifted by `M` and divided by
    their sum, are the values averaged with the unshifted exponentials, the sum divided out at the end. -/
theorem softmax [Fintype ι] [Nonempty ι] (s : ι → ℝ) (M : ℝ) (v : ι → EReal) :
    ∑ p, Ideal.div (Ideal.exp ((s p : EReal) - (M : EReal))) (0 + ∑ i, Ideal.exp ((s i : EReal) - (M : EReal))) * v p
      = Ideal.div (∑ p, ((Real.exp (s p) : ℝ) : EReal) * v p) (∑ p, ((Real.exp (s p) : ℝ) : EReal)) := by
  have hD : 0 < ∑ i, Real.exp (s i) := Finset.sum_pos (fun i _ => Real.exp_pos _) Finset.univ_nonempty
  have hD' : 0 < ∑ i, Real.exp (s i - M) := Finset.sum_pos (fun i _ => Real.exp_pos _) Finset.univ_nonempty
  have hshift : ∑ i, Real.exp (s i - M) = (∑ i, Real.exp (s i)) * Real.exp (-M) := by
    rw [Finset.sum_mul]
    exact Finset.sum_congr rfl fun i _ => by rw [sub_eq_add_neg, Real.exp_add]
  simp only [← EReal.coe_sub, Ideal.exp_coe, zero_add, sum_real]
  rw [Ideal.div_coe hD.ne', sum_mul _ _ _ (one_div_pos.2 hD).le]
  refine Finset.sum_congr rfl fun p _ => ?_
  rw [Ideal.div_coe hD'.ne', ← EReal.coe_mul, mul_right_comm, ← EReal.coe_mul, hshift, sub_eq_add_neg, Real.exp_add]
  have hM := (Real.exp_pos (-M)).ne'
  congr 2
  field_simp

end Cert.Equation

end
-- ==== Proof.Scores.lean ====
/- What the reference computes, read at an index: the scores of a query with the 512 gathered keys, their softmax and the
   weighted mean of the gathered values. -/
module

public import proofs.«01_k».proof.Proof.Gather
public import proofs.«01_k».proof.Proof.Equation

@[expose] public section

set_option maxRecDepth 16384

noncomputable section

namespace Cert.ReferenceIdeal.Reading

open Cert.ReferenceIdeal Cert.ReferenceIdeal.Read Cert.Words
open Idealize.ShloMosaic

/-- The place of a rank-6 index in row-major order. -/
theorem place_six {d : Fin 6 → Nat} (i : (⟨6, d⟩ : Shape).Idx) :
    ((⟨6, d⟩ : Shape).rowMajor i).val
      = (((((i 0).val * d 1 + (i 1).val) * d 2 + (i 2).val) * d 3 + (i 3).val) * d 4 + (i 4).val) * d 5 + (i 5).val := by
  have e : (⟨5, fun a => d a.succ⟩ : Shape).numel = d 1 * d 2 * d 3 * d 4 * d 5 := by
    simp [Shape.numel, Fin.prod_univ_succ, Nat.mul_assoc]
  rw [Shape.rowMajor_val_succ, Shape.rowMajor_val_five, e]
  show (i 0).val * (d 1 * d 2 * d 3 * d 4 * d 5) + (((((i 1).val * d 2 + (i 2).val) * d 3 + (i 3).val) * d 4 + (i 4).val) * d 5 + (i 5).val) = _
  ring

/-- The row of keys and values at position `p` of the 512 that the table gathers for query block `u`. -/
def keyAt (B : Vec Ideal S16x4 .i32) (u : Fin 16) (p : Fin 512) : Fin 2048 :=
  ⟨((B (ix2 u ⟨p.val / 128, by omega⟩) : BitVec 32).toNat * 128 + p.val % 128) % 2048, Nat.mod_lt _ (by decide)⟩

variable (Q K V : Vec Ideal S2x16x2048x128 .f32) (B : Vec Ideal S16x4 .i32)

/-- The scale `1 / √128`. -/
theorem scale_eq (i : S_.Idx) : val_main_v6 (F := Ideal) i = ((1 / Real.sqrt 128 : ℝ) : EReal) := by
  rw [val_main_v6_apply, val_main_v5_apply, val_main_cst_apply, val_main_cst_0_apply]
  show Ideal.div (Ideal.ofBits .f32 0x3F800000#32) (Ideal.sqrt (Ideal.ofBits .f32 0x43000000#32)) = _
  rw [Cert.Consts.f32_128, Cert.Consts.one_f32, Ideal.sqrt_coe, if_neg (by norm_num), Ideal.div_coe (by positivity), one_mul]

/-- The score before the scale of query row `r` of block `u` with key position `p`. -/
def inner (b : Fin 2) (h u : Fin 16) (r : Fin 128) (p : Fin 512) : EReal :=
  ∑ d : Fin 128, Q (ix4 b h (row u r) d) * K (ix4 b h (keyAt B u p) d)

/-- The reference's masked maximum, subtracted from every score. -/
abbrev top (b : Fin 2) (h u : Fin 16) (r : Fin 128) : EReal := val_main_v13 (F := Ideal) Q K B (ix4 b h u r)

section Table
variable (hB : ∀ y, (B y : BitVec 32).toNat < 16)
include hB

/-- The row of position `c` of the `k`-th block, among the 512. -/
theorem row_eq (u : Fin 16) (p : Fin 512) :
    row ⟨(B (ix2 u ⟨p.val / 128, by omega⟩) : BitVec 32).toNat, hB _⟩ ⟨p.val % 128, Nat.mod_lt _ (by decide)⟩ = keyAt B u p := by
  have := hB (ix2 u ⟨p.val / 128, by omega⟩)
  exact Fin.ext (Nat.mod_eq_of_lt (by omega)).symm

/-- The scaled scores. -/
theorem scores_at (b : Fin 2) (h u : Fin 16) (r : Fin 128) (p : Fin 512) :
    val_main_v10 (F := Ideal) Q K B (ix5 b h u r p) = inner Q K B b h u r p * ((1 / Real.sqrt 128 : ℝ) : EReal) := by
  unfold val_main_v10
  rw [shapeCast_apply _ _ _ (ix6 b h u r (⟨p.val / 128, by omega⟩ : Fin 4) (⟨p.val % 128, Nat.mod_lt _ (by decide)⟩ : Fin 128)) (by
    rw [place_six, Shape.rowMajor_val_five]
    show (((((b.val * 16 + h.val) * 16 + u.val) * 128 + r.val) * 4 + p.val / 128) * 128 + p.val % 128)
      = ((((b.val * 16 + h.val) * 16 + u.val) * 128 + r.val) * 512 + p.val)
    omega)]
  rw [val_main_v9_apply, val_main_v8_apply, scale_eq, val_main_v7_apply]
  refine congrArg (· * _) (Finset.sum_congr rfl fun d _ => congrArg₂ (· * ·) ?_ ?_)
  · refine Eq.trans (congrArg (val_main_v0 (F := Ideal) Q) (funext fun a => ?_)) (blocked Q b h u r d)
    fin_cases a <;> rfl
  · refine Eq.trans (congrArg (val_main_v3 (F := Ideal) K B) (funext fun a => ?_))
      ((taken B hB K b h u ⟨p.val / 128, by omega⟩ ⟨p.val % 128, Nat.mod_lt _ (by decide)⟩ d).trans ?_)
    · fin_cases a <;> rfl
    · rw [row_eq B hB]

/-- The gathered values. -/
theorem values_at (b : Fin 2) (h u : Fin 16) (p : Fin 512) (d : Fin 128) :
    val_main_v22 (F := Ideal) V B (ix5 b h u p d) = V (ix4 b h (keyAt B u p) d) := by
  unfold val_main_v22
  rw [shapeCast_apply _ _ _ (ix6 b h u (⟨p.val / 128, by omega⟩ : Fin 4) (⟨p.val % 128, Nat.mod_lt _ (by decide)⟩ : Fin 128) d) (by
    rw [place_six, Shape.rowMajor_val_five]
    show (((((b.val * 16 + h.val) * 16 + u.val) * 4 + p.val / 128) * 128 + p.val % 128) * 128 + d.val)
      = ((((b.val * 16 + h.val) * 16 + u.val) * 512 + p.val) * 128 + d.val)
    omega)]
  exact (taken B hB V b h u ⟨p.val / 128, by omega⟩ ⟨p.val % 128, Nat.mod_lt _ (by decide)⟩ d).trans (by rw [row_eq B hB])

/-- The exponential of a score less the maximum. -/
theorem exp_at (b : Fin 2) (h u : Fin 16) (r : Fin 128) (p : Fin 512) :
    val_main_v17 (F := Ideal) Q K B (ix5 b h u r p)
      = Ideal.exp (inner Q K B b h u r p * ((1 / Real.sqrt 128 : ℝ) : EReal) - top Q K B b h u r) := by
  rw [val_main_v17_apply, val_main_v16_apply, scores_at Q K B hB, val_main_v15_apply, val_main_v14_apply]
  refine congrArg (fun z => Ideal.exp (_ - val_main_v13 (F := Ideal) Q K B z)) (funext fun a => ?_)
  fin_cases a <;> rfl

/-- The sum of the exponentials. -/
theorem denom_at (b : Fin 2) (h u : Fin 16) (r : Fin 128) :
    val_main_v18 (F := Ideal) Q K B (ix4 b h u r)
      = 0 + ∑ p : Fin 512, Ideal.exp (inner Q K B b h u r p * ((1 / Real.sqrt 128 : ℝ) : EReal) - top Q K B b h u r) := by
  rw [val_main_v18_apply, val_main_cst_3_apply]
  refine congrArg₂ (· + ·) (by simp) (Finset.sum_congr rfl fun p _ => ?_)
  refine Eq.trans (congrArg (val_main_v17 (F := Ideal) Q K B) (funext fun a => ?_)) (exp_at Q K B hB b h u r p)
  fin_cases a <;> rfl

/-- The result of the reference at one index. -/
theorem result_at (b : Fin 2) (h u : Fin 16) (r d : Fin 128) :
    val_main_v24 (F := Ideal) Q K V B (ix4 b h (row u r) d)
      = ∑ p : Fin 512, Ideal.div (Ideal.exp (inner Q K B b h u r p * ((1 / Real.sqrt 128 : ℝ) : EReal) - top Q K B b h u r))
          (0 + ∑ i : Fin 512, Ideal.exp (inner Q K B b h u r i * ((1 / Real.sqrt 128 : ℝ) : EReal) - top Q K B b h u r))
        * V (ix4 b h (keyAt B u p) d) := by
  have e : idx_main_v24 (ix4 b h (row u r) d) = (ix5 b h u r d : S2x16x16x128x128.Idx) := by
    funext a
    refine Fin.ext ?_
    fin_cases a
    · show (((b.val * 16 + h.val) * 2048 + (u.val * 128 + r.val)) * 128 + d.val) / 4194304 = b.val
      omega
    · show (((b.val * 16 + h.val) * 2048 + (u.val * 128 + r.val)) * 128 + d.val) / 262144 % 16 = h.val
      omega
    · show (((b.val * 16 + h.val) * 2048 + (u.val * 128 + r.val)) * 128 + d.val) / 16384 % 16 = u.val
      omega
    · show (((b.val * 16 + h.val) * 2048 + (u.val * 128 + r.val)) * 128 + d.val) / 128 % 128 = r.val
      omega
    · show (((b.val * 16 + h.val) * 2048 + (u.val * 128 + r.val)) * 128 + d.val) % 128 = d.val
      omega
  rw [val_main_v24_apply, e, val_main_v23_apply]
  refine Finset.sum_congr rfl fun p _ => congrArg₂ (· * ·) ?_ ?_
  · have el : lidx_main_v23 (ix5 b h u r d) p = (ix5 b h u r p : S2x16x16x128x512.Idx) := by
      funext a
      fin_cases a <;> rfl
    rw [el, val_main_v21_apply, exp_at Q K B hB, val_main_v20_apply, val_main_v19_apply]
    refine congrArg (Ideal.div _) (Eq.trans (congrArg (val_main_v18 (F := Ideal) Q K B) (funext fun a => ?_)) (denom_at Q K B hB b h u r))
    fin_cases a <;> rfl
  · refine Eq.trans (congrArg (val_main_v22 (F := Ideal) V B) (funext fun a => ?_)) (values_at V B hB b h u p d)
    fin_cases a <;> rfl

/-- Where queries and keys are real numbers, the maximum is one. -/
theorem top_real (hQ : ∀ y, ∃ x : ℝ, Q y = (x : EReal)) (hK : ∀ y, ∃ x : ℝ, K y = (x : EReal)) (b : Fin 2) (h u : Fin 16) (r : Fin 128) :
    ∃ x : ℝ, top Q K B b h u r = (x : EReal) := by
  have hs (i : S2x16x16x128x512.Idx) : ∃ x : ℝ, val_main_v10 (F := Ideal) Q K B i = (x : EReal) := by
    obtain ⟨s, hs, -⟩ := Cert.Equation.inner_real Finset.univ (fun d : Fin 128 => Q (ix4 (i 0) (i 1) (row (i 2) (i 3)) d))
      (fun d => K (ix4 (i 0) (i 1) (keyAt B (i 2) (i 4)) d)) 1 (fun _ => hQ _) (fun _ => hK _)
    refine ⟨s * (1 / Real.sqrt 128), ?_⟩
    have := scores_at Q K B hB (i 0) (i 1) (i 2) (i 3) (i 4)
    rw [EReal.coe_mul, ← hs]
    refine Eq.trans (congrArg _ (funext fun a => ?_)) this
    fin_cases a <;> rfl
  have hm : ∃ x : ℝ, val_main_v11 (F := Ideal) Q K B (ix4 b h u r) = (x : EReal) := by
    unfold val_main_v11
    rw [Host.reduce_eq_fold, val_main_cst_1_apply]
    show ∃ x : ℝ, Finset.fold max (Ideal.ofBits .f32 0xFF800000#32) _ _ = _
    rw [Cert.Consts.bot_f32]
    refine Cert.Equation.max_real _ _ ⟨ix5 b h u r 0, Finset.mem_filter.2 ⟨Finset.mem_univ _, funext fun a => ?_⟩⟩ fun i _ => hs i
    fin_cases a <;> exact Fin.ext rfl
  obtain ⟨x, hx⟩ := hm
  refine ⟨x, ?_⟩
  show val_main_v13 (F := Ideal) Q K B (ix4 b h u r) = _
  rw [val_main_v13_apply, val_main_v12_apply, val_main_cst_2_apply, hx]
  show max (Ideal.ofBits .f32 0xFF800000#32) _ = _
  rw [Cert.Consts.bot_f32]
  exact max_eq_right bot_le

/-- THE REFERENCE, over real queries and keys: the values averaged with the exponentials of the scores. -/
theorem reference_at (hQ : ∀ y, ∃ x : ℝ, Q y = (x : EReal)) (hK : ∀ y, ∃ x : ℝ, K y = (x : EReal))
    (b : Fin 2) (h u : Fin 16) (r d : Fin 128) (s : Fin 512 → ℝ) (hs : ∀ p, inner Q K B b h u r p = (s p : EReal)) :
    val_main_v24 (F := Ideal) Q K V B (ix4 b h (row u r) d)
      = Ideal.div (∑ p, ((Real.exp (s p * (1 / Real.sqrt 128)) : ℝ) : EReal) * V (ix4 b h (keyAt B u p) d))
          (∑ p, ((Real.exp (s p * (1 / Real.sqrt 128)) : ℝ) : EReal)) := by
  obtain ⟨M, hM⟩ := top_real Q K B hB hQ hK b h u r
  rw [result_at Q K V B hB, hM]
  simp only [hs, ← EReal.coe_mul]
  exact Cert.Equation.softmax (fun p => s p * (1 / Real.sqrt 128)) M fun p => V (ix4 b h (keyAt B u p) d)

end Table

end Cert.ReferenceIdeal.Reading

end
-- ==== Proof.Value.lean ====
/- The kernel's result equals the reference's, over real queries and keys and a table of block numbers. -/
module

public import proofs.«01_k».proof.Proof.Array
public import proofs.«01_k».proof.Proof.Scores

@[expose] public section

set_option maxRecDepth 16384

noncomputable section

namespace Cert.Value

open Cert.KernelIdeal Cert.KernelIdeal.Gen Cert.KernelIdeal.Block
open Cert.ReferenceIdeal.Reading (keyAt row inner)
open Idealize.ShloMosaic

/-- One of the three operands, batch and head made one axis. -/
abbrev flat (X : Vec Ideal S2x16x2048x128 .f32) : Vec Ideal S32x2048x128 .f32 := shapeCast S32x2048x128 X shapeCasts_S2x16x2048x128_S32x2048x128

/-- The table in one row. -/
abbrev line (B : Vec Ideal S16x4 .i32) : Vec Ideal S64 .i32 := shapeCast S64 B shapeCasts_S16x4_S64

/-- The number of batch `b` and head `h`, the 32 counted in order. -/
def pair (b : Fin 2) (h : Fin 16) : Fin 32 := ⟨b.val * 16 + h.val, by omega⟩

/-- An operand's block of batch `b` and head `h`, read at an index. -/
theorem part_at (X : Vec Ideal S2x16x2048x128 .f32) (b : Fin 2) (h : Fin 16) (s : Fin 2048) (d : Fin 128) :
    part (flat X) (pair b h) (ix3 0 s d) = X (ix4 b h s d) := by
  refine shapeCast_apply X _ _ (ix4 b h s d) ?_
  rw [Shape.rowMajor_val_four, Shape.rowMajor_val_three]
  rfl

/-- The table's entry `k` of query block `u` stands at `4 u + k` in the row. -/
theorem line_at (B : Vec Ideal S16x4 .i32) (u : Fin 16) (k : Fin 4) (n : Fin 64) (hn : n.val = 4 * u.val + k.val) :
    line B (ix1 n) = B (ix2 u k) := by
  refine shapeCast_apply B _ _ (ix2 u k) ?_
  rw [Shape.rowMajor_val_two, Shape.rowMajor_val_one]
  show u.val * 4 + k.val = n.val
  omega

/-- Kernel and reference gather the same rows. -/
theorem keyRow_eq (B : Vec Ideal S16x4 .i32) (u : Fin 16) (p : Fin 512) : keyRow (line B) u p = keyAt B u p := by
  exact Fin.ext (congrArg (fun w : BitVec 32 => (w.toNat * 128 + p.val % 128) % 2048) (line_at B u ⟨p.val / 128, by omega⟩ _ rfl))

/-- A gathered row of an operand's block, read at an index. -/
theorem gathered_at (X : Vec Ideal S2x16x2048x128 .f32) (B : Vec Ideal S16x4 .i32) (b : Fin 2) (h u : Fin 16) (p : Fin 512) (d : Fin 128) :
    part (flat X) (pair b h) (ix3 0 (keyRow (line B) u p) d) = X (ix4 b h (keyAt B u p) d) :=
  (congrArg (fun z => part (flat X) (pair b h) (ix3 0 z d)) (keyRow_eq B u p)).trans (part_at X b h _ d)

variable (Q K V : Vec Ideal S2x16x2048x128 .f32) (B : Vec Ideal S16x4 .i32)

/-- The kernel's weight of a key is the exponential of the score. -/
theorem weight_eq (hQ : ∀ y, ∃ x : ℝ, Q y = (x : EReal)) (hK : ∀ y, ∃ x : ℝ, K y = (x : EReal)) (b : Fin 2) (h u : Fin 16) (r : Fin 128) (p : Fin 512) :
    ∃ s : ℝ, inner Q K B b h u r p = (s : EReal)
      ∧ weight (part (flat Q) (pair b h)) (part (flat K) (pair b h)) (line B) u (row u r) p = ((Real.exp (s * (1 / Real.sqrt 128)) : ℝ) : EReal) := by
  obtain ⟨s, hs, hs'⟩ := Cert.Equation.inner_real Finset.univ (fun d : Fin 128 => Q (ix4 b h (row u r) d))
    (fun d => K (ix4 b h (keyAt B u p) d)) ((Real.sqrt 128)⁻¹ * (Real.log 2)⁻¹) (fun _ => hQ _) (fun _ => hK _)
  refine ⟨s, hs, ?_⟩
  refine Eq.trans (congrArg Ideal.exp2 (Eq.trans (Finset.sum_congr rfl fun d _ => ?_) hs')) (Cert.Equation.exp2_scaled s)
  exact congrArg₂ (· * ·) (congrArg (· * _) (part_at Q b h (row u r) d)) (gathered_at K B b h u p d)

/-- THE VALUE: the kernel's output array, batch and head taken apart again, is the reference's result. -/
theorem value_eq (hQ : ∀ y, ∃ x : ℝ, Q y = (x : EReal)) (hK : ∀ y, ∃ x : ℝ, K y = (x : EReal)) (hB : ∀ y, (B y : BitVec 32).toNat < 16) :
    shapeCast S2x16x2048x128 (array (flat Q) (flat K) (flat V) (line B)) shapeCasts_S32x2048x128_S2x16x2048x128
      = Cert.ReferenceIdeal.Read.val_main_v24 (F := Ideal) Q K V B := by
  funext i
  obtain ⟨b, h, u, r, d, rfl⟩ : ∃ (b : Fin 2) (h u : Fin 16) (r d : Fin 128), i = ix4 b h (row u r) d := by
    have h2 : (i 2).val < 2048 := (i 2).isLt
    refine ⟨i 0, i 1, ⟨(i 2).val / 128, by omega⟩, ⟨(i 2).val % 128, Nat.mod_lt _ (by decide)⟩, i 3, funext fun a => ?_⟩
    fin_cases a
    · rfl
    · rfl
    · refine Fin.ext ?_
      show (i 2).val = (i 2).val / 128 * 128 + (i 2).val % 128
      omega
    · rfl
  choose s hs hw using fun p => weight_eq Q K B hQ hK b h u r p
  rw [Cert.ReferenceIdeal.Reading.reference_at Q K V B hB hQ hK b h u r d s hs]
  rw [shapeCast_apply _ _ _ (ix3 (pair b h) (row u r) d) (by
    rw [Shape.rowMajor_val_four, Shape.rowMajor_val_three]
    rfl)]
  have hu : (⟨(row u r).val / 128, Nat.div_lt_of_lt_mul (row u r).isLt⟩ : Fin 16) = u := by
    refine Fin.ext ?_
    show (u.val * 128 + r.val) / 128 = u.val
    omega
  show out (part (flat Q) (pair b h)) (part (flat K) (pair b h)) (part (flat V) (pair b h)) (line B)
    ⟨(row u r).val / 128, Nat.div_lt_of_lt_mul (row u r).isLt⟩ (row u r) d = _
  rw [hu]
  unfold out
  simp only [hw]
  exact congrArg (Ideal.div · _) (Finset.sum_congr rfl fun p _ => congrArg (_ * ·) (gathered_at V B b h u p d))

/-- The kernel's run: it returns the reference's result and leaves its arguments. -/
theorem run (m : (ℓ : Loc nD τ sig) → Buf (Elt Ideal) ℓ) (g : Dev nD → PrngReg) (hp : Cert.Pre_KernelIdeal_scores_finite m) :
    θ_run defs (onTc (τ := τ) (main (F := Ideal))) ⟨m, fun _ => 0, g⟩ (fun r => ∀ c : Dev nD,
      r.2.mem ((c.tc : Thread nD τ).loc main_v5) = Cert.ReferenceIdeal.Read.val_main_v24 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  obtain ⟨hQ, hK, hB⟩ := Words.decoded m hp
  have hO := Words.ok m
  have hH := Words.hyps m hB
  have hT (i : S64.Idx) : (tbl m 0 i : BitVec 32).toNat < 16 := by rw [Words.table_eq]; exact hB _
  refine (θ_run defs _ _).mono (fun r h c => ⟨?_, h.2 c⟩) (θ_run_and (run_main m g hO hH) (unchanged m g hO hH))
  obtain rfl : c = (0 : Dev nD) := Subsingleton.elim _ _
  refine ((h.1 0).2 main_v5 (by decide : main_v5 ∈ Pipeline.restRefs sig spec0)).trans ?_
  rw [result_eq m hO hH 0 hT, operand0, operand1, operand2, Words.table_eq]
  exact value_eq _ _ _ _ hQ hK hB

end Cert.Value

end
-- ==== Proof.lean ====
/- The certificate: the frames of the kernel, of its ideal program and of the reference, the one named constant, and the
   equality of kernel and reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_blocks_exist
public import proofs.«01_k».proof.Proof.Gen.Pre_scores_finite
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Kernel and reference compute the same function over the extended reals. -/
theorem algebraic : Cert.algebraic_KernelIdeal_ReferenceIdeal_pre_scores_finite := by
  intro m g m' g' hp hagree
  refine ⟨_, Cert.Value.run m g hp, ?_⟩
  refine (θ_run Cert.ReferenceIdeal.defs _ _).mono (fun r h c => ⟨(h c).1.trans ?_, (h c).2⟩)
    (Cert.ReferenceIdeal.Value.run (F := Ideal) m' g')
  obtain ⟨h0, h1, h2, h3⟩ := hagree c
  rw [Cert.ReferenceIdeal.Read.val_main_v24_eq, h0, h1, h2, h3]

/-- Everything the certificate claims. -/
theorem claim : Cert.Claim :=
  ⟨Cert.Kernel.Gen.facts, Cert.KernelIdeal.Gen.facts, Cert.ReferenceIdeal.Gen.facts, Cert.Pre_blocks_exist.Gen.facts,
    Cert.Pre_scores_finite.Gen.facts,
    fun m g h => Cert.Kernel.Gen.frame m g (Cert.Kernel.Words.ok m) (Cert.Kernel.Words.hyps m (Cert.Kernel.Words.words_lt m h)),
    fun m g h => Cert.KernelIdeal.Gen.frame m g (Cert.KernelIdeal.Words.ok m) (Cert.KernelIdeal.Words.hyps m (Cert.KernelIdeal.Words.words_lt m h)),
    fun m g h => Cert.KernelIdeal.Gen.frame m g (Cert.KernelIdeal.Words.ok m) (Cert.KernelIdeal.Words.hyps m (Cert.KernelIdeal.Words.decoded m h).2.2),
    fun m g _ => reference_frame m g,
    fun m g _ => reference_frame m g,
    IdealRules.named_const.statement Cert.KernelIdeal.κ "scale_log2e" .f32 0x3E0293EE#32 (((Real.sqrt 128)⁻¹ * (Real.log 2)⁻¹ : ℝ) : EReal) rfl,
    algebraic⟩

end Cert.Proof

end
